-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S512x1024 : Shape := ⟨2, ![512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn {F : FTy → Type} [FloatOps F] (main_arg0 : FVec F S1024x512 .f32) (main_arg1 : FVec F S512x16 .f32) (main_arg2 : IVec S1024x1 32) (main_arg3 : FVec F S4x512x1024 .f32) (main_arg4 : FVec F S512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_c_2 : IVec S_ 32 := constantI S_ 32 0#32
  let main_v9 : IVec S1024x1 32 := broadcastInDim S1024x1 ![] bcast_S_S1024x1 main_c_2
  let main_v10 : IVec S1024x1 1 := cmpi .sge main_arg2 main_v9
  let main_c_3 : IVec S_ 32 := constantI S_ 32 16#32
  let main_v11 : IVec S1024x1 32 := broadcastInDim S1024x1 ![] bcast_S_S1024x1 main_c_3
  let main_v12 : IVec S1024x1 1 := cmpi .slt main_arg2 main_v11
  let main_v13 : IVec S1024x1 1 := andi main_v10 main_v12
  let main_c_4 : IVec S_ 1 := constantI S_ 1 1#1
  let main_v14 : IVec S_ 1 := (fun x v => Host.reduce IntOp.andi x v reducesTo_S1024x1_S_d0_1 h_S_) main_v13 main_c_4
  let main_v15 : IVec S_ 1 := andi main_v8 main_v14
  main_v15
-- ==== Pre_finite_and_routed_ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S512x1024 : Shape := ⟨2, ![512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn {F : FTy → Type} [FloatOps F] (main_arg0 : FVec F S1024x512 .f32) (main_arg1 : FVec F S512x16 .f32) (main_arg2 : IVec S1024x1 32) (main_arg3 : FVec F S16x512x1024 .f32) (main_arg4 : FVec F S512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_c_2 : IVec S_ 32 := constantI S_ 32 0#32
  let main_v9 : IVec S1024x1 32 := broadcastInDim S1024x1 ![] bcast_S_S1024x1 main_c_2
  let main_v10 : IVec S1024x1 1 := cmpi .sge main_arg2 main_v9
  let main_c_3 : IVec S_ 32 := constantI S_ 32 16#32
  let main_v11 : IVec S1024x1 32 := broadcastInDim S1024x1 ![] bcast_S_S1024x1 main_c_3
  let main_v12 : IVec S1024x1 1 := cmpi .slt main_arg2 main_v11
  let main_v13 : IVec S1024x1 1 := andi main_v10 main_v12
  let main_c_4 : IVec S_ 1 := constantI S_ 1 1#1
  let main_v14 : IVec S_ 1 := (fun x v => Host.reduce IntOp.andi x v reducesTo_S1024x1_S_d0_1 h_S_) main_v13 main_c_4
  let main_v15 : IVec S_ 1 := andi main_v8 main_v14
  main_v15
-- ==== Kernel.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S512x1024 : Shape := ⟨2, ![512, 1024]⟩
abbrev S1024x1024 : Shape := ⟨2, ![1024, 1024]⟩
abbrev S2x4x256x512 : Shape := ⟨4, ![2, 4, 256, 512]⟩
abbrev S1024x4 : Shape := ⟨2, ![1024, 4]⟩
abbrev S2x256x512 : Shape := ⟨3, ![2, 256, 512]⟩
abbrev S2 : Shape := ⟨1, ![2]⟩
abbrev S_ : Shape := ⟨0, ![]⟩
abbrev S1024x16 : Shape := ⟨2, ![1024, 16]⟩
abbrev S1024 : Shape := ⟨1, ![1024]⟩
abbrev S256x512 : Shape := ⟨2, ![256, 512]⟩
abbrev S256x4 : Shape := ⟨2, ![256, 4]⟩
abbrev S256x1 : Shape := ⟨2, ![256, 1]⟩
abbrev S1x512x1024 : Shape := ⟨3, ![1, 512, 1024]⟩
abbrev S256x1024 : Shape := ⟨2, ![256, 1024]⟩
abbrev S1x1x256x512 : Shape := ⟨4, ![1, 1, 256, 512]⟩
abbrev S1 : Shape := ⟨1, ![1]⟩
abbrev S1x256x512 : Shape := ⟨3, ![1, 256, 512]⟩

abbrev nBuf : Space → Nat
  | .hbm => 6
  | .vmem => 10
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x1, .i32⟩
  | .hbm, ⟨3, _⟩ => ⟨S4x512x1024, .f32⟩
  | .hbm, ⟨4, _⟩ => ⟨S512x1024, .f32⟩
  | .hbm, ⟨5, _⟩ => ⟨S1024x1024, .f32⟩
  | .local _ .vmem, ⟨0, _⟩ => ⟨S1024x512, .f32⟩
  | .local _ .vmem, ⟨1, _⟩ => ⟨S512x16, .f32⟩
  | .local _ .vmem, ⟨2, _⟩ => ⟨S1024x1, .i32⟩
  | .local _ .vmem, ⟨3, _⟩ => ⟨S4x512x1024, .f32⟩
  | .local _ .vmem, ⟨4, _⟩ => ⟨S512x1024, .f32⟩
  | .local _ .vmem, ⟨5, _⟩ => ⟨S1024x1024, .f32⟩
  | .local _ .vmem, ⟨6, _⟩ => ⟨S2x4x256x512, .bf16⟩
  | .local _ .vmem, ⟨7, _⟩ => ⟨S1024x4, .f32⟩
  | .local _ .vmem, ⟨8, _⟩ => ⟨S2x256x512, .bf16⟩
  | .local _ .vmem, ⟨9, _⟩ => ⟨S2x256x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_14 : BitVec 32 := 1#32
  let v21 : BitVec 32 := Scalar.muli v5 c1_i32_14
  let v22 : BitVec 32 := Scalar.addi c0_i32_15 v21
  v22.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_17 : BitVec 32 := 1#32
  let v23 : BitVec 32 := Scalar.muli v7 c1_i32_17
  let v24 : BitVec 32 := Scalar.addi c0_i32_18 v23
  v24.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v61 : BitVec 32 := Scalar.muli v2 c256_i32
  let v62 : Index := Scalar.indexCast v61
  let c0_33 : Index := 0#32
  ![v62.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v61 : BitVec 32 := Scalar.muli v2 c256_i32
  let v65 : Index := Scalar.indexCast v61
  let c0_34 : Index := 0#32
  ![v65.toNat, 0]
def k0_off3 (d0 : Dev nD) : Fin 4 → Nat :=
  let c0_48 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v96 : Index := Scalar.indexCast v2
  let c0_49 : Index := 0#32
  let c0_50 : Index := 0#32
  ![0, v96.toNat, 0, 0]
def k0_off4 (d0 : Dev nD) : Fin 4 → Nat :=
  let c1_51 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v102 : Index := Scalar.indexCast v2
  let c0_52 : Index := 0#32
  let c0_53 : Index := 0#32
  ![1, v102.toNat, 0, 0]
def k0_off5 (d0 : Dev nD) (c0_i32 : BitVec 32) : Fin 4 → Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c0_i32
  let c8_i32 : BitVec 32 := 8#32
  let v9 : BitVec 32 := Scalar.addi v8 c8_i32
  let c4_i32_5 : BitVec 32 := 4#32
  let v10 : BitVec 32 := Scalar.remsi v9 c4_i32_5
  let c0_i32_62 : BitVec 32 := 0#32
  let c0_i32_63 : BitVec 32 := 0#32
  ![0, v10.toNat, 0, 0]
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_58 : BitVec 32 := 1#32
  let v106 : BitVec 32 := Scalar.muli v7 c1_i32_58
  let v107 : BitVec 32 := Scalar.addi c0_i32_59 v106
  v107.toNat
def k0_off6 (d0 : Dev nD) (c0_i32 : BitVec 32) : Fin 4 → Nat :=
  let c1_i32_64 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c0_i32
  let c8_i32 : BitVec 32 := 8#32
  let v9 : BitVec 32 := Scalar.addi v8 c8_i32
  let c4_i32_5 : BitVec 32 := 4#32
  let v10 : BitVec 32 := Scalar.remsi v9 c4_i32_5
  let c0_i32_72 : BitVec 32 := 0#32
  let c0_i32_73 : BitVec 32 := 0#32
  ![1, v10.toNat, 0, 0]
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_68 : BitVec 32 := 1#32
  let v116 : BitVec 32 := Scalar.muli v5 c1_i32_68
  let v117 : BitVec 32 := Scalar.addi c0_i32_69 v116
  v117.toNat
def k0_off7 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.addi v2 c3_i32
  let c8_i32_11 : BitVec 32 := 8#32
  let v18 : BitVec 32 := Scalar.addi v17 c8_i32_11
  let c4_i32_12 : BitVec 32 := 4#32
  let v19 : BitVec 32 := Scalar.remsi v18 c4_i32_12
  let c256_i32_74 : BitVec 32 := 256#32
  let v126 : BitVec 32 := Scalar.muli v19 c256_i32_74
  let v127 : Index := Scalar.indexCast v126
  let c0_75 : Index := 0#32
  ![v127.toNat, 0]
def k0_off8 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.addi v2 c3_i32
  let c8_i32_11 : BitVec 32 := 8#32
  let v18 : BitVec 32 := Scalar.addi v17 c8_i32_11
  let c4_i32_12 : BitVec 32 := 4#32
  let v19 : BitVec 32 := Scalar.remsi v18 c4_i32_12
  let c256_i32_74 : BitVec 32 := 256#32
  let v126 : BitVec 32 := Scalar.muli v19 c256_i32_74
  let v130 : Index := Scalar.indexCast v126
  let c0_76 : Index := 0#32
  ![v130.toNat, 0]
def k0_off9 (d0 : Dev nD) (c3_i32 : BitVec 32) : Fin 4 → Nat :=
  let c0_93 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.addi v2 c3_i32
  let c8_i32_11 : BitVec 32 := 8#32
  let v18 : BitVec 32 := Scalar.addi v17 c8_i32_11
  let c4_i32_12 : BitVec 32 := 4#32
  let v19 : BitVec 32 := Scalar.remsi v18 c4_i32_12
  let v161 : Index := Scalar.indexCast v19
  let c0_94 : Index := 0#32
  let c0_95 : Index := 0#32
  ![0, v161.toNat, 0, 0]
def k0_off10 (d0 : Dev nD) (c3_i32 : BitVec 32) : Fin 4 → Nat :=
  let c1_96 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.addi v2 c3_i32
  let c8_i32_11 : BitVec 32 := 8#32
  let v18 : BitVec 32 := Scalar.addi v17 c8_i32_11
  let c4_i32_12 : BitVec 32 := 4#32
  let v19 : BitVec 32 := Scalar.remsi v18 c4_i32_12
  let v167 : Index := Scalar.indexCast v19
  let c0_97 : Index := 0#32
  let c0_98 : Index := 0#32
  ![1, v167.toNat, 0, 0]
def k0_dev5 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_184 : BitVec 32 := 1#32
  let v270 : BitVec 32 := Scalar.muli v7 c1_i32_184
  let v271 : BitVec 32 := Scalar.addi c0_i32_185 v270
  v271.toNat
def k0_dev6 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_194 : BitVec 32 := 1#32
  let v280 : BitVec 32 := Scalar.muli v5 c1_i32_194
  let v281 : BitVec 32 := Scalar.addi c0_i32_195 v280
  v281.toNat
def k0_dev7 (d0 : Dev nD) : Nat :=
  let c0_i32_286 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_285 : BitVec 32 := 1#32
  let v389 : BitVec 32 := Scalar.muli v7 c1_i32_285
  let v390 : BitVec 32 := Scalar.addi c0_i32_286 v389
  v390.toNat
def k0_dev8 (d0 : Dev nD) : Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_295 : BitVec 32 := 1#32
  let v399 : BitVec 32 := Scalar.muli v5 c1_i32_295
  let v400 : BitVec 32 := Scalar.addi c0_i32_296 v399
  v400.toNat
def k0_dev9 (d0 : Dev nD) : Nat :=
  let c0_i32_372 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_371 : BitVec 32 := 1#32
  let v477 : BitVec 32 := Scalar.muli v7 c1_i32_371
  let v478 : BitVec 32 := Scalar.addi c0_i32_372 v477
  v478.toNat
def k0_dev10 (d0 : Dev nD) : Nat :=
  let c0_i32_382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_381 : BitVec 32 := 1#32
  let v487 : BitVec 32 := Scalar.muli v5 c1_i32_381
  let v488 : BitVec 32 := Scalar.addi c0_i32_382 v487
  v488.toNat
def k0_dev11 (d0 : Dev nD) : Nat :=
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_439 : BitVec 32 := 1#32
  let v539 : BitVec 32 := Scalar.muli v7 c1_i32_439
  let v540 : BitVec 32 := Scalar.addi c0_i32_440 v539
  v540.toNat
def k0_dev12 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_449 : BitVec 32 := 1#32
  let v549 : BitVec 32 := Scalar.muli v5 c1_i32_449
  let v550 : BitVec 32 := Scalar.addi c0_i32_450 v549
  v550.toNat
def k0_off11 (d0 : Dev nD) (c0_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c0_i32
  let c8_i32 : BitVec 32 := 8#32
  let v9 : BitVec 32 := Scalar.addi v8 c8_i32
  let c4_i32_5 : BitVec 32 := 4#32
  let v10 : BitVec 32 := Scalar.remsi v9 c4_i32_5
  let c256_i32_455 : BitVec 32 := 256#32
  let v559 : BitVec 32 := Scalar.muli v10 c256_i32_455
  let v566 : Index := Scalar.indexCast v559
  let c0_459 : Index := 0#32
  ![v566.toNat, 0]
def k0_off12 (d0 : Dev nD) (c0_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c0_i32
  let c8_i32 : BitVec 32 := 8#32
  let v9 : BitVec 32 := Scalar.addi v8 c8_i32
  let c4_i32_5 : BitVec 32 := 4#32
  let v10 : BitVec 32 := Scalar.remsi v9 c4_i32_5
  let c256_i32_455 : BitVec 32 := 256#32
  let v559 : BitVec 32 := Scalar.muli v10 c256_i32_455
  let v574 : Index := Scalar.indexCast v559
  let c512 : Index := 512#32
  ![v574.toNat, 512]
def k0_dev13 (d0 : Dev nD) : Nat :=
  let c0_i32_506 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_505 : BitVec 32 := 1#32
  let v604 : BitVec 32 := Scalar.muli v7 c1_i32_505
  let v605 : BitVec 32 := Scalar.addi c0_i32_506 v604
  v605.toNat
def k0_dev14 (d0 : Dev nD) : Nat :=
  let c0_i32_516 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_515 : BitVec 32 := 1#32
  let v614 : BitVec 32 := Scalar.muli v5 c1_i32_515
  let v615 : BitVec 32 := Scalar.addi c0_i32_516 v614
  v615.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S512x1024 : Shape := ⟨2, ![512, 1024]⟩
abbrev S1024x16 : Shape := ⟨2, ![1024, 16]⟩
abbrev S_ : Shape := ⟨0, ![]⟩
abbrev S1024 : Shape := ⟨1, ![1024]⟩
abbrev S1024x1024 : Shape := ⟨2, ![1024, 1024]⟩
abbrev S1024x2 : Shape := ⟨2, ![1024, 2]⟩
abbrev S1024x512x1024 : Shape := ⟨3, ![1024, 512, 1024]⟩

abbrev nBuf : Space → Nat
  | .hbm => 52
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x1, .i32⟩
  | .hbm, ⟨3, _⟩ => ⟨S16x512x1024, .f32⟩
  | .hbm, ⟨4, _⟩ => ⟨S512x1024, .f32⟩
  | .hbm, ⟨5, _⟩ => ⟨S1024x16, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x16, .f32⟩
  | .hbm, ⟨10, _⟩ => ⟨S1024x16, .f32⟩
  | .hbm, ⟨11, _⟩ => ⟨S1024x16, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x16, .f32⟩
  | .hbm, ⟨16, _⟩ => ⟨S1024x16, .f32⟩
  | .hbm, ⟨17, _⟩ => ⟨S1024x1024, .f32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S1024x1, .i32⟩
  | .hbm, ⟨36, _⟩ => ⟨S1024x2, .i32⟩
  | .hbm, ⟨37, _⟩ => ⟨S1024, .f32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S_, .i32⟩
  | .hbm, ⟨42, _⟩ => ⟨S1024, .i32⟩
  | .hbm, ⟨43, _⟩ => ⟨S1024, .i32⟩
  | .hbm, ⟨44, _⟩ => ⟨S1024, .i32⟩
  | .hbm, ⟨45, _⟩ => ⟨S1024x1, .i32⟩
  | .hbm, ⟨46, _⟩ => ⟨S1024x512x1024, .f32⟩
  | .hbm, ⟨47, _⟩ => ⟨S1024x1024, .f32⟩
  | .hbm, ⟨48, _⟩ => ⟨S1024x1, .f32⟩
  | .hbm, ⟨49, _⟩ => ⟨S1024x1024, .f32⟩
  | .hbm, ⟨50, _⟩ => ⟨S1024x1024, .f32⟩
  | .hbm, ⟨51, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Owned.lean ====
/-
# Loads, stores and the pieces of the scratch, by owned memrefs

The vocabulary of this certificate's run: the resource algebra, the ring of four devices, the two directions
(`false` sends to the device after, `true` to the device before), the chunks, and the pieces of scratch a transfer moves —
one (plane, chunk) of the accumulator, one slot of a landing buffer — as memrefs owned at known contents. A load or a store
through a rectangle of a memref is a step on the slice it names.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's own rounds: duties named by a Boolean. -/
abbrev UB : Type := URounds (GSem nD τ sig) Bool
/-- Beside the pipeline library's. -/
abbrev UU : Type := UR sig nD τ × UB

local notation "𝕄" => MT nD τ sig ℕ (Elt F) ℕ UU ℕ

/-- The pipeline's half. -/
abbrev EP : Emb (UR sig nD τ) (MT nD τ sig ℕ (Elt F) ℕ UU ℕ) := embL
/-- The exchange's half. -/
abbrev ER : Emb UB (MT nD τ sig ℕ (Elt F) ℕ UU ℕ) := embR

/-- No loop of this kernel is bounded by a variant. -/
abbrev 𝒱₀ : Variants := Variants.none

/-! ## Steps on an owned memref -/

section Steps

variable (c : Dev nD) {cs : CoreSpace} {sh : Shape} {e : EltTy} {Q : PUnit → sProp 𝕄}

omit [FloatOps F] in
/-- Owning a memref is its buffer's elements at some contents it reads as `X`. -/
theorem owns_def {sp : Space} (m : Memref sig .tc sp sh e) (q : PosShare TreeShare) (X : sh.Idx → Elt F e) :
    (ownsTc c m q X : sProp 𝕄) = iprop(∃ f, ⌜m.view.read (Elt F) f = X⌝ ∗ (m.view.loc (c : Thread nD τ) ↦[m.view.set]{q} f)) := rfl

/-- A load through a rectangle of a memref owned at `X` reads `X` there. -/
theorem load_part {α : Type} {Q : α → sProp 𝕄} (m : Memref sig .tc cs sh e) (r : Rect sh) (hl : m.view.LoadsAt r.toLoadRect)
    (k : (r.toLoadRect.shape.Idx → Elt F e) → Prog (TpuEff nD τ sig (Elt F) Λ₀ .tc) α) (q : PosShare TreeShare) (X : sh.Idx → Elt F e) :
    (ownsTc c m q X : sProp 𝕄)
      ⊢ iprop((ownsTc c m q X -∗ wp frame (wpE (defs₀ (F := F)) 𝒱₀ c none) Set.univ (k (fun j => X (r.emb j))) Q)
        -∗ wp frame (wpE (defs₀ (F := F)) 𝒱₀ c none) Set.univ (.op (.load m r.toLoadRect hl) k) Q) := by
  rw [owns_def]
  iintro ⟨%f, %hf, H⟩ Hk
  subst hf
  iapply (wp_load (defs := defs₀ (F := F)) 𝒱₀ (c : Thread nD τ) none Set.univ (S := m.view.set) (f := f) (q := q)
    (Finset.map_subset_map.mpr (Finset.subset_univ _))) $$ [H]
  · iexact H
  iintro H
  ihave H' := Hk $$ [H]
  · iexists f
    isplitr; · ipureintro; rfl
    iexact H
  iexact H'

/-- A load of the rectangle a slice was taken at reads what the slice is owned at. -/
theorem load_slice {α : Type} {Q : α → sProp 𝕄} (m : Memref sig .tc cs sh e) (r : Rect sh) (hr : ∀ a, r.stride a = 1)
    (hl : m.view.LoadsAt r.toLoadRect)
    (k : (r.toLoadRect.shape.Idx → Elt F e) → Prog (TpuEff nD τ sig (Elt F) Λ₀ .tc) α) (q : PosShare TreeShare) (X : r.shape.Idx → Elt F e) :
    (ownsTc c (m.slice r hr) q X : sProp 𝕄)
      ⊢ iprop((ownsTc c (m.slice r hr) q X -∗ wp frame (wpE (defs₀ (F := F)) 𝒱₀ c none) Set.univ (k X) Q)
        -∗ wp frame (wpE (defs₀ (F := F)) 𝒱₀ c none) Set.univ (.op (.load m r.toLoadRect hl) k) Q) := by
  rw [owns_def]
  iintro ⟨%f, %hf, H⟩ Hk
  iapply (wp_load_rect (defs := defs₀ (F := F)) 𝒱₀ (c : Thread nD τ) none Set.univ (m := m) (r := r) (S := (m.access r).set) (f := f) (q := q)
    (Finset.Subset.refl _)) $$ [H]
  · iexact H
  iintro H
  subst hf
  iapply Hk
  iexists f
  isplitr; · ipureintro; rfl
  iexact H

/-- A store over the rectangle a slice was taken at leaves the slice owned at what was stored. -/
theorem store_slice {α : Type} {Q : α → sProp 𝕄} (m : Memref sig .tc cs sh e) (r : Rect sh) (hr : ∀ a, r.stride a = 1)
    (w : r.shape.Idx → Elt F e) (hx : (m.access r).Stores Finset.univ) (hm : Finset.univ = Finset.univ ∨ ∀ a, r.stride a = 1)
    (k : PUnit → Prog (TpuEff nD τ sig (Elt F) Λ₀ .tc) α) (X : r.shape.Idx → Elt F e) :
    (ownsTc c (m.slice r hr) fullShare X : sProp 𝕄)
      ⊢ iprop((ownsTc c (m.slice r hr) fullShare w -∗ wp frame (wpE (defs₀ (F := F)) 𝒱₀ c none) Set.univ (k ⟨⟩) Q)
        -∗ wp frame (wpE (defs₀ (F := F)) 𝒱₀ c none) Set.univ (.op (.store m r w Finset.univ hx hm) k) Q) := by
  rw [owns_def, owns_def]
  iintro ⟨%f, %hf, H⟩ Hk
  iapply (wp_store (defs := defs₀ (F := F)) 𝒱₀ (c : Thread nD τ) none Set.univ (m := m) (r := r) (Mk := Finset.univ) (S := (m.access r).set) (f := f)
    (Finset.Subset.refl _)) $$ [H]
  · iexact H
  iintro H
  iapply Hk
  iexists (m.access r).write (Elt F) f w Finset.univ
  isplitr
  · ipureintro; exact (m.access r).read_write_univ f w
  iexact H

/-- A store over a rectangle of a whole memref of which only the values on a set `D` are known: known on the
    rectangle too, if what is stored is what is to be known there. -/
theorem store_known {α : Type} {Q : α → sProp 𝕄} (m : Memref sig .tc cs sh e) (r : Rect sh)
    (w : r.shape.Idx → Elt F e) (hx : (m.access r).Stores Finset.univ) (hm : Finset.univ = Finset.univ ∨ ∀ a, r.stride a = 1)
    (k : PUnit → Prog (TpuEff nD τ sig (Elt F) Λ₀ .tc) α) (Y : sh.Idx → Elt F e) (D : Finset sh.Idx) (hw : ∀ j, w j = Y (r.emb j)) :
    (iprop(∃ X : sh.Idx → Elt F e, ⌜∀ i ∈ D, X i = Y i⌝ ∗ ownsTc c m fullShare X) : sProp 𝕄)
      ⊢ iprop(((∃ X : sh.Idx → Elt F e, ⌜∀ i ∈ D ∪ r.set, X i = Y i⌝ ∗ ownsTc c m fullShare X)
          -∗ wp frame (wpE (defs₀ (F := F)) 𝒱₀ c none) Set.univ (k ⟨⟩) Q)
        -∗ wp frame (wpE (defs₀ (F := F)) 𝒱₀ c none) Set.univ (.op (.store m r w Finset.univ hx hm) k) Q) := by
  iintro ⟨%X, %hX, H⟩ Hk
  ihave H := (Entails.of_eq (owns_def c m fullShare X)) $$ H
  icases H with ⟨%f, %hf, H⟩
  iapply (wp_store (defs := defs₀ (F := F)) 𝒱₀ (c : Thread nD τ) none Set.univ (m := m) (r := r) (Mk := Finset.univ) (S := m.view.set) (f := f)
    (View.set_slice_subset _ _)) $$ [H]
  · iexact H
  iintro H
  iapply Hk
  iexists m.view.read (Elt F) ((m.access r).write (Elt F) f w Finset.univ)
  isplitr
  · ipureintro
    intro i hi
    by_cases hr : i ∈ r.set
    · rw [← Rect.map_emb_univ, Finset.mem_map] at hr
      obtain ⟨j, -, rfl⟩ := hr
      rw [← hw j]
      exact congrFun ((m.access r).read_write_univ f w) j
    · rcases Finset.mem_union.mp hi with hD | hD
      · rw [← hX i hD, ← hf]
        simp only [View.read]
        rw [View.write_of_not_mem]
        intro hmem
        have hmem : m.view.emb i ∈ (m.view.slice r).set := hmem
        rw [View.set_slice, Finset.mem_map] at hmem
        obtain ⟨i', hi', he⟩ := hmem
        exact hr (m.view.emb.injective he ▸ hi')
      · exact absurd hD hr
  rw [owns_def]
  iexists _
  isplitr
  · ipureintro; rfl
  iexact H

/-- An addressed transfer between owned memrefs, handing resources `R` of the sender's along: the first payload is made
    from the source, the second from the destination at the source's values and `R`. -/
theorem send_owned {sp sp' : Space} {c' : Dev nD} {src : Memref sig .tc sp sh e} {dst : Memref sig .tc sp' sh e}
    (Rd : Rounds.Schedule (GSem nD τ sig) Bool 𝕄) [∀ g r d, BI.Storable (upEmb : UEmb _ 𝕄) (Rd.payload g r d)]
    {hsc : dst.view.ref.isScScratch = false} {sS sem : SemLoc sig}
    {hsrc : src.view.WordExact} {hdst : dst.view.WordExact} {hsem : DmaTarget.Typed sp sem (.remote (Dev.tc c' : Thread nD τ) dst sS hsc)}
    {α : Type} {Q : α → sProp 𝕄} {k : PUnit → Prog (TpuEff nD τ sig (Elt F) Λ₀ .tc) α} {q : PosShare TreeShare}
    (X : sh.Idx → Elt F e) (R : sProp 𝕄) (r₁ r₂ : ℕ) (d₁ d₂ : Bool) (κ₁ κ₂ : ℕ)
    (hd₁ : d₁ ∈ Rd.duties ((c : Thread nD τ), sS) r₁) (hd₂ : d₂ ∈ Rd.duties ((c' : Thread nD τ), sem) r₂)
    (ι ι' : ℕ) (N : ℕ) (hN : dst.view.amount sem = N)
    (hk₁ : Rd.amount ((c : Thread nD τ), sS) r₁ d₁ = N) (hk₂ : Rd.amount ((c' : Thread nD τ), sem) r₂ d₂ = N)
    {O₀ : CellTallies nD τ sig ℕ} (O : CellTallies nD τ sig ℕ) (hO : O₀ = O + tallyAt ((c' : Thread nD τ), sem) ι N) {W : Waits sig ℕ}
    (hpay₁ : (ownsTc c src q X : sProp 𝕄) ⊢ Rd.payload ((c : Thread nD τ), sS) r₁ d₁)
    (hpay₂ : iprop(ownsTc c' dst fullShare X ∗ R) ⊢ Rd.payload ((c' : Thread nD τ), sem) r₂ d₂) :
    iprop(cellInv ER Rd κ₁ ((c : Thread nD τ), sS) ∗ cellInv ER Rd κ₂ ((c' : Thread nD τ), sem)
        ∗ ownsTc c src q X ∗ (∃ Y, ownsTc c' dst fullShare Y) ∗ R
        ∗ owes (c : Thread nD τ) O₀ W
        ∗ dutyTok ER ((c : Thread nD τ), sS) r₁ d₁ ∗ reached ER ((c : Thread nD τ), sS) r₁
        ∗ dutyTok ER ((c' : Thread nD τ), sem) r₂ d₂ ∗ reached ER ((c' : Thread nD τ), sem) r₂)
      ⊢ iprop(((cred (tallyAt ((c : Thread nD τ), sS) ι' N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc c' : Thread nD τ) dst sS hsc) sem hsrc hdst hsem) k) Q) := by
  iintro ⟨H1, H2, Hs, ⟨%Y, Hd⟩, HR, Ho, Ht1, Hr1, Ht2, Hr2⟩ Hk
  ihave Hs := (Entails.of_eq (owns_def c src q X)) $$ Hs
  icases Hs with ⟨%fs, %hfs, Hs⟩
  ihave Hd := (Entails.of_eq (owns_def c' dst fullShare Y)) $$ Hd
  icases Hd with ⟨%fd, %hfd, Hd⟩
  subst hfs
  iapply (Rounds.wp_send_pointsTo_with 𝒱₀ ER Rd (c : Thread nD τ) none (κ₁ := κ₁) (κ₂ := κ₂) (r₁ := r₁) (r₂ := r₂) (d₁ := d₁) (d₂ := d₂)
    (fs := fs) (fd := fd) (F := R) (q := q) hd₁ hd₂ ι ι' N hN hk₁ hk₂ O hO (W := W)
    ((owns_intro (c : Thread nD τ) src q fs).trans hpay₁)
    ((sep_mono_left ((owns_intro (c' : Thread nD τ) dst fullShare _).trans
      (Entails.of_eq (by rw [View.read_write_univ])))).trans hpay₂)) $$ [H1 H2 Hs Hd HR Ho Ht1 Hr1 Ht2 Hr2]
  · isplitl [H1]; · iexact H1
    isplitl [H2]; · iexact H2
    isplitl [Hs]; · iexact Hs
    isplitl [Hd HR]
    · isplitl [Hd] <;> iassumption
    isplitl [Ho]; · iexact Ho
    isplitl [Ht1]; · iexact Ht1
    isplitl [Hr1]; · iexact Hr1
    isplitl [Ht2]; · iexact Ht2
    iexact Hr2
  iexact Hk

/-- A memref with axes of size one dropped is owned at the values, re-indexed, the memref is owned at. -/
theorem owns_squeeze {sp : Space} {s' : Shape} (m : Memref sig .tc sp sh e) (h : sh.Squeezes s') (q : PosShare TreeShare) (X : sh.Idx → Elt F e) :
    (ownsTc c (m.squeeze s' h) q (fun j => X (Shape.reshapeEquiv h.numel_eq j)) : sProp 𝕄) = ownsTc c m q X := by
  have hr : ∀ f, (m.squeeze s' h).view.read (Elt F) f = (fun j => X (Shape.reshapeEquiv h.numel_eq j)) ↔ m.view.read (Elt F) f = X := by
    intro f
    constructor
    · intro hf; funext i
      have := congrFun hf ((Shape.reshapeEquiv h.numel_eq).symm i)
      simp only [Equiv.apply_symm_apply] at this
      rw [← this]
      show _ = m.view.read (Elt F) f (Shape.reshapeEquiv h.numel_eq ((Shape.reshapeEquiv h.numel_eq).symm i))
      rw [Equiv.apply_symm_apply]
    · intro hf; subst hf; rfl
  rw [owns_def, owns_def]
  simp only [hr]
  have hset : (m.squeeze s' h).view.set = m.view.set := View.set_reshape m.view h.numel_eq
  rw [hset]

end Steps

/-! ## The ring, the chunks, the pieces of scratch -/

set_option backward.proofsInPublic true in
/-- The device direction `b` sends to: the one after for `false`, the one before for `true`. -/
def up (b : Bool) (c : Dev nD) : Dev nD := ⟨(c.val + cond b 3 1) % 4, Nat.mod_lt _ (by decide)⟩

theorem up_up (b : Bool) (c : Dev nD) : up b (up (!b) c) = c := by revert b c; decide
theorem up_up' (b : Bool) (c : Dev nD) : up (!b) (up b c) = c := by revert b c; decide

set_option backward.proofsInPublic true in
/-- The chunk of rows `r` after device `c`'s own. -/
def ck (c : Dev nD) (r : Fin 4) : Fin 4 := ⟨(c.val + r.val + 8) % 4, Nat.mod_lt _ (by decide)⟩

set_option backward.proofsInPublic true in
/-- Which chunk, counted from its own, a device sends at step `s` of direction `b`: going down for `false`, up for `true`. -/
def sr (b : Bool) (s : ℕ) : Fin 4 := ⟨cond b (s % 4) ((8 - s) % 4), by cases b <;> exact Nat.mod_lt _ (by decide)⟩

/-- What a device sends at a step is, at its receiver, one step later in the receiver's own order. -/
theorem ck_up (b : Bool) (c : Dev nD) {s : ℕ} (hs : s < 6) : ck (up b c) (sr b (s + 1)) = ck c (sr b s) := by
  have h : ∀ (b : Bool) (c : Dev nD) (s : Fin 6), ck (up b c) (sr b (s.val + 1)) = ck c (sr b s.val) := by decide
  exact h b c ⟨s, hs⟩

abbrev a0 : Memref sig .tc .vmem S1024x512 .f32 := Memref.whole cc0_stg0_0
abbrev a1 : Memref sig .tc .vmem S512x16 .f32 := Memref.whole cc0_stg1_0
abbrev a2 : Memref sig .tc .vmem S1024x1 .i32 := Memref.whole cc0_stg2_0
abbrev a3 : Memref sig .tc .vmem S4x512x1024 .f32 := Memref.whole cc0_stg3_0
abbrev a4 : Memref sig .tc .vmem S512x1024 .f32 := Memref.whole cc0_stg4_0
abbrev a5 : Memref sig .tc .vmem S1024x1024 .f32 := Memref.whole cc0_stg5_0
abbrev a6 : Memref sig .tc .vmem S2x4x256x512 .bf16 := Memref.whole cc0_scratch0
abbrev a7 : Memref sig .tc .vmem S1024x4 .f32 := Memref.whole cc0_scratch1
abbrev a8 : Memref sig .tc .vmem S2x256x512 .bf16 := Memref.whole cc0_scratch2
abbrev a9 : Memref sig .tc .vmem S2x256x512 .bf16 := Memref.whole cc0_scratch3

/-- The landing buffer of direction `b`. -/
abbrev bufW (b : Bool) : Memref sig .tc .vmem S2x256x512 .bf16 := match b with | false => a8 | true => a9

theorem acc_inb (b : Bool) (k : Fin 4) : ∀ a, (![cond b 1 0, k.val, 0, 0] : Fin 4 → ℕ) a + S1x1x256x512.size a ≤ S2x4x256x512.size a := by
  revert b k; decide
theorem buf_inb (s : ℕ) : ∀ a, (![s % 2, 0, 0] : Fin 3 → ℕ) a + S1x256x512.size a ≤ S2x256x512.size a := by
  rcases Nat.mod_two_eq_zero_or_one s with h | h <;> rw [h] <;> decide

/-- The accumulator's piece of plane `b` (the column half direction `b` carries) and chunk `k`. -/
abbrev accR (b : Bool) (k : Fin 4) : Rect S2x4x256x512 := Rect.unit (s := S2x4x256x512) ![cond b 1 0, k.val, 0, 0] S1x1x256x512.size (acc_inb b k)
abbrev accM (b : Bool) (k : Fin 4) : Memref sig .tc .vmem S1x1x256x512 .bf16 := a6.slice (accR b k) (fun _ => rfl)
abbrev accQ (b : Bool) (k : Fin 4) : Memref sig .tc .vmem S256x512 .bf16 := (accM b k).squeeze S256x512 squeezes_S1x1x256x512_S256x512
/-- The landing buffer's slot of step `s`: the slots alternate. -/
abbrev bufR (s : ℕ) : Rect S2x256x512 := Rect.unit (s := S2x256x512) ![s % 2, 0, 0] S1x256x512.size (buf_inb s)
abbrev bufM (b : Bool) (s : ℕ) : Memref sig .tc .vmem S1x256x512 .bf16 := (bufW b).slice (bufR s) (fun _ => rfl)
abbrev bufQ (b : Bool) (s : ℕ) : Memref sig .tc .vmem S256x512 .bf16 := (bufM b s).squeeze S256x512 squeezes_S1x256x512_S256x512

/-- Where a transfer of step `s` lands: in a slot in the first three steps, over the chunk it completes in the last three. -/
abbrev dstM (b : Bool) (s : ℕ) (k : Fin 4) : Memref sig .tc .vmem S256x512 .bf16 := cond (Nat.blt s 3) (bufQ b s) (accQ b k)

/-- The values of a piece, as the accumulator holds them. -/
abbrev V4 (F : FTy → Type) [FloatOps F] : Type := Vec F S1x1x256x512 .bf16
/-- The same as a landing slot holds them, -/
def to3 (v : V4 F) : Vec F S1x256x512 .bf16 := fun i =>
  v (Shape.reshapeEquiv (squeezes_S1x1x256x512_S256x512).numel_eq ((Shape.reshapeEquiv (squeezes_S1x256x512_S256x512).numel_eq).symm i))
/-- and as a transfer carries them. -/
def to2 (v : V4 F) : Vec F S256x512 .bf16 := fun j => v (Shape.reshapeEquiv (squeezes_S1x1x256x512_S256x512).numel_eq j)

/-- Device `c` holds the accumulator's piece at `v`. -/
def accP (c : Dev nD) (b : Bool) (k : Fin 4) (q : PosShare TreeShare) (v : V4 F) : sProp 𝕄 := ownsTc c (accM b k) q v
/-- Device `c` holds the landing slot at `w`. -/
def bufP (c : Dev nD) (b : Bool) (s : ℕ) (w : Vec F S1x256x512 .bf16) : sProp 𝕄 := ownsTc c (bufM b s) fullShare w

theorem accP_eq (c : Dev nD) (b : Bool) (k : Fin 4) (q : PosShare TreeShare) (v : V4 F) :
    (ownsTc c (accQ b k) q (to2 v) : sProp 𝕄) = accP c b k q v := owns_squeeze c (accM b k) _ q v
theorem bufP_eq (c : Dev nD) (b : Bool) (s : ℕ) (v : V4 F) :
    (ownsTc c (bufQ b s) fullShare (to2 v) : sProp 𝕄) = bufP c b s (to3 v) := by
  have h : to2 v = fun j => to3 v (Shape.reshapeEquiv (squeezes_S1x256x512_S256x512).numel_eq j) := by
    funext j; unfold to2 to3; rw [Equiv.symm_apply_apply]
  rw [h]; exact owns_squeeze c (bufM b s) _ fullShare (to3 v)

/-- The two halves of a piece's share. -/
theorem accP_halves (c : Dev nD) (b : Bool) (k : Fin 4) (v : V4 F) :
    (accP c b k fullShare v : sProp 𝕄) ⊣⊢ iprop(accP c b k fullShare.left v ∗ accP c b k fullShare.right v) := by
  exact owns_halves (c : Thread nD τ) (accM b k) fullShare v

end Cert.Moe
-- ==== Proof.Protocol.lean ====
/-
# The exchange's schedule

For each semaphore, who signals it or copies onto it, how much, in what order, and what each landing hands over. Values are
abstract here: `SV b s c` is what device `c` sends at step `s` of direction `b`.

* The barrier cell of `c`: one unit from each neighbour, the neighbour `up b c` handing its direction-`b` landing buffer.
* The send cell (direction, slot): one transfer per round, steps `2 r + slot`; the source's share comes back.
* The receive cell (direction, slot): likewise; the destination at the sender's values, and — from the sender's own wait for
  the opposite direction — the permit for the owner's next transfer the other way: where it lands, and that the receiver's
  cell has reached that round.
-/
module

public import proofs.«01_k».proof.Proof.Owned

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The cells -/

/-- The barrier, or (direction, whether the receive side, slot). -/
abbrev Kind' : Type := Option (Bool × Bool × Bool)

/-- The barrier semaphore. -/
abbrev barS : Sem sig := (SemArray.scalar (sig.barrier 0 rfl) : Sems sig S_).sem

theorem slot_inb (s : ℕ) : ∀ a, (![s % 2] : Fin 1 → ℕ) a + S1.size a ≤ S2.size a := by
  rcases Nat.mod_two_eq_zero_or_one s with h | h <;> rw [h] <;> decide

/-- The send and the receive semaphore pairs of direction `b`. -/
abbrev semA (b rv : Bool) : DmaSems sig S2 := match b, rv with
  | false, false => cc0_scratch4 | false, true => cc0_scratch5 | true, false => cc0_scratch6 | true, true => cc0_scratch7

/-- The semaphore of step `s`. -/
abbrev semX (b rv : Bool) (s : ℕ) : DmaSem sig :=
  (((semA b rv).slice (Rect.unit (s := S2) ![s % 2] S1.size (slot_inb s))).squeeze S_ squeezes_S1_S_).sem

/-- A kind's semaphore. -/
def ksem : Kind' → SemLoc sig
  | none => .reg barS
  | some (b, rv, sl) => .dma (semX b rv (cond sl 1 0))

theorem ksem_injective : Function.Injective ksem := by
  have h : ∀ k k' : Kind', ksem k = ksem k' → k = k' := by decide
  exact fun k k' e => h k k' e

/-- Which of the exchange's semaphores a semaphore is. -/
def kd (sm : SemLoc sig) : Option Kind' := Function.partialInv ksem sm

theorem kd_ksem (k : Kind') : kd (ksem k) = some k := Function.partialInv_left ksem_injective k

theorem semX_eq (b rv : Bool) (s : ℕ) : (SemLoc.dma (semX b rv s) : SemLoc sig) = ksem (some (b, rv, s % 2 == 1)) := by
  have h : ∀ n, n % 2 = 0 ∨ n % 2 = 1 := Nat.mod_two_eq_zero_or_one
  have aux : ∀ (n m : ℕ) (hn : ∀ a, (![n] : Fin 1 → ℕ) a + S1.size a ≤ S2.size a) (hm : ∀ a, (![m] : Fin 1 → ℕ) a + S1.size a ≤ S2.size a), n = m →
      (((semA b rv).slice (Rect.unit (s := S2) ![n] S1.size hn)).squeeze S_ squeezes_S1_S_).sem
        = (((semA b rv).slice (Rect.unit (s := S2) ![m] S1.size hm)).squeeze S_ squeezes_S1_S_).sem := by
    rintro n m hn hm rfl; rfl
  have e : semX b rv s = semX b rv (s % 2) := aux _ _ _ _ (Nat.mod_mod s 2).symm
  rw [e]
  rcases h s with h | h <;> rw [h] <;> rfl

theorem kd_bar : kd (.reg barS) = some none := kd_ksem none
theorem kd_semX (b rv : Bool) (s : ℕ) : kd (.dma (semX b rv s)) = some (some (b, rv, s % 2 == 1)) := by rw [semX_eq, kd_ksem]

abbrev barCell (c : Dev nD) : GSem nD τ sig := ((c : Thread nD τ), .reg barS)
/-- The cell of step `s` on the send (`rv = false`) or receive side of device `c`. -/
abbrev cellX (b rv : Bool) (s : ℕ) (c : Dev nD) : GSem nD τ sig := ((c : Thread nD τ), .dma (semX b rv s))

/-- The credit of a transfer of one piece. -/
abbrev N : ℕ := (accQ false 0).view.dmaCredit
theorem N_pos : 0 < N := View.dmaCredit_pos _ (by decide)

theorem credit_acc (b : Bool) (k : Fin 4) : (accQ b k).view.dmaCredit = N := rfl
theorem credit_buf (b : Bool) (s : ℕ) : (bufQ b s).view.dmaCredit = N := by cases b <;> rfl
theorem credit_dst (b : Bool) (s : ℕ) (k : Fin 4) : (dstM b s k).view.dmaCredit = N := by
  unfold dstM; cases Nat.blt s 3
  · exact credit_acc b k
  · exact credit_buf b s

/-! ## What the landings hand over -/

variable (SV : Bool → ℕ → Dev nD → V4 F)

/-- The share a send lends: all of the piece in the first four steps; one half in the last two, whose pieces are read
    while in flight. -/
def lent (s : ℕ) : PosShare TreeShare := cond (Nat.blt s 4) fullShare fullShare.left

/-- What device `c` needs of its receiver for its transfer of step `s`. -/
def permit (b : Bool) (s : ℕ) (c : Dev nD) : sProp 𝕄 :=
  iprop((∃ Y, ownsTc (up b c) (dstM b s (ck c (sr b s))) fullShare Y) ∗ reached ER (cellX b true s (up b c)) (s / 2))

/-- The other direction's permit, which steps one to four hand along. -/
def feed (b : Bool) (s : ℕ) (r : Dev nD) : sProp 𝕄 :=
  if 1 ≤ s ∧ s ≤ 4 then permit (!b) (s + 1) r else iprop(emp)

/-- A neighbour's landing buffer. -/
def barPay (b : Bool) (c : Dev nD) : sProp 𝕄 :=
  iprop((∃ Y, ownsTc (up b c) (bufQ b 0) fullShare Y) ∗ ∃ Y, ownsTc (up b c) (bufQ b 1) fullShare Y)

def sendPay (b : Bool) (s : ℕ) (c : Dev nD) : sProp 𝕄 := accP c b (ck c (sr b s)) (lent s) (SV b s c)

def recvPay (b : Bool) (s : ℕ) (r : Dev nD) : sProp 𝕄 :=
  iprop(ownsTc r (dstM b s (ck r (sr b (s + 1)))) fullShare (to2 (SV b s (up (!b) r))) ∗ feed b s r)

instance barPay_storable (b : Bool) (c : Dev nD) : BI.Storable (upEmb : UEmb _ 𝕄) (barPay (F := F) b c) := by
  unfold barPay; infer_instance
instance permit_storable (b : Bool) (s : ℕ) (c : Dev nD) : BI.Storable (upEmb : UEmb _ 𝕄) (permit (F := F) b s c) := by
  unfold permit; infer_instance
instance feed_storable (b : Bool) (s : ℕ) (c : Dev nD) : BI.Storable (upEmb : UEmb _ 𝕄) (feed (F := F) b s c) := by
  unfold feed; split <;> infer_instance
instance sendPay_storable (b : Bool) (s : ℕ) (c : Dev nD) : BI.Storable (upEmb : UEmb _ 𝕄) (sendPay SV b s c) := by
  unfold sendPay accP; infer_instance
instance recvPay_storable (b : Bool) (s : ℕ) (c : Dev nD) : BI.Storable (upEmb : UEmb _ 𝕄) (recvPay SV b s c) := by
  unfold recvPay; infer_instance

/-- The step a cell's round serves. -/
def stepOf (sl : Bool) (r : ℕ) : ℕ := 2 * r + cond sl 1 0
theorem stepOf_eq (s : ℕ) : stepOf (s % 2 == 1) (s / 2) = s := by
  unfold stepOf
  rcases Nat.mod_two_eq_zero_or_one s with h | h <;> rw [h] <;> simp only [Nat.reduceBEq, cond_true, cond_false] <;> omega

def duty' (g : Option Kind') (r : ℕ) : Finset Bool := match g with
  | none => ∅
  | some none => if r = 0 then Finset.univ else ∅
  | some (some _) => if r < 3 then {false} else ∅
def amount' (g : Option Kind') : ℕ := match g with
  | some none => 1
  | _ => N
def payload' (g : Option Kind') (c : Dev nD) (r : ℕ) (d : Bool) : sProp 𝕄 := match g with
  | none => iprop(emp)
  | some none => barPay d c
  | some (some (b, false, sl)) => sendPay SV b (stepOf sl r) c
  | some (some (b, true, sl)) => recvPay SV b (stepOf sl r) c

/-- The schedule. -/
def Rd : Rounds.Schedule (GSem nD τ sig) Bool 𝕄 where
  duties g r := if g.1.2 = .tc then duty' (kd g.2) r else ∅
  unitless _ := False
  amount g _ _ := amount' (kd g.2)
  payload g r d := payload' SV (kd g.2) g.1.1 r d
  amount_pos g _ _ _ := by
    unfold amount'; split
    · exact Nat.one_pos
    · exact N_pos

instance Rd_payload_storable (g : GSem nD τ sig) (r : ℕ) (d : Bool) : BI.Storable (upEmb : UEmb _ 𝕄) ((Rd SV).payload g r d) := by
  show BI.Storable upEmb (payload' SV (kd g.2) g.1.1 r d)
  unfold payload'; split <;> infer_instance

section Table
variable (c : Dev nD)

theorem duties_bar : (Rd SV).duties (barCell c) 0 = Finset.univ := by
  dsimp only [Rd]; rw [if_pos rfl, kd_bar]; rfl
theorem duties_X (b rv : Bool) {s : ℕ} (hs : s < 6) : (Rd SV).duties (cellX b rv s c) (s / 2) = {false} := by
  dsimp only [Rd]; rw [if_pos rfl, kd_semX]; exact if_pos (by omega)
theorem duties_later (g : GSem nD τ sig) : ∀ r, 3 ≤ r → (Rd SV).duties g r = ∅ := by
  intro r hr; dsimp only [Rd]; split
  · unfold duty'; split
    · rfl
    · exact if_neg (by omega)
    · exact if_neg (by omega)
  · rfl
theorem duties_bar_later : ∀ r, 1 ≤ r → (Rd SV).duties (barCell c) r = ∅ := by
  intro r hr; dsimp only [Rd]; rw [if_pos rfl, kd_bar]; exact if_neg (by omega)
theorem amount_bar (r : ℕ) (d : Bool) : (Rd SV).amount (barCell c) r d = 1 := by
  dsimp only [Rd]; rw [kd_bar]; rfl
theorem amount_X (b rv : Bool) (s r : ℕ) (d : Bool) : (Rd SV).amount (cellX b rv s c) r d = N := by
  dsimp only [Rd]; rw [kd_semX]; rfl
theorem expect_bar : (Rd SV).expect (barCell c) 0 = 2 := by
  unfold Schedule.expect Schedule.amountOf
  rw [duties_bar, Finset.sum_congr rfl fun d _ => amount_bar SV c 0 d, Finset.sum_const, Finset.card_univ, Fintype.card_bool, smul_eq_mul]
theorem expect_X (b rv : Bool) {s : ℕ} (hs : s < 6) : (Rd SV).expect (cellX b rv s c) (s / 2) = N := by
  unfold Schedule.expect Schedule.amountOf; rw [duties_X SV c b rv hs, Finset.sum_singleton, amount_X]
theorem payload_bar (d : Bool) : (Rd SV).payload (barCell c) 0 d = barPay d c := by
  dsimp only [Rd]; rw [kd_bar]; rfl
theorem payload_send (b : Bool) (s : ℕ) (d : Bool) : (Rd SV).payload (cellX b false s c) (s / 2) d = sendPay SV b s c := by
  dsimp only [Rd]; rw [kd_semX]; show sendPay SV b (stepOf (s % 2 == 1) (s / 2)) c = _; rw [stepOf_eq]
theorem payload_recv (b : Bool) (s : ℕ) (d : Bool) : (Rd SV).payload (cellX b true s c) (s / 2) d = recvPay SV b s c := by
  dsimp only [Rd]; rw [kd_semX]; show recvPay SV b (stepOf (s % 2 == 1) (s / 2)) c = _; rw [stepOf_eq]

theorem rest_bar : bigSep ((Rd SV).duties (barCell c) 0 \ ∅) (fun d => (Rd SV).payload (barCell c) 0 d) = iprop(barPay false c ∗ barPay true c) := by
  rw [Finset.sdiff_empty, duties_bar, bigSep_univ_eq_bigSepL [false, true] (by decide) (by decide), bigSepL_cons_cons, bigSepL_singleton,
    payload_bar, payload_bar]
  rfl
theorem rest_send (b : Bool) {s : ℕ} (hs : s < 6) :
    bigSep ((Rd SV).duties (cellX b false s c) (s / 2) \ ∅) (fun d => (Rd SV).payload (cellX b false s c) (s / 2) d) = sendPay SV b s c := by
  rw [Finset.sdiff_empty, duties_X SV c b false hs, bigSep_singleton, payload_send]
theorem rest_recv (b : Bool) {s : ℕ} (hs : s < 6) :
    bigSep ((Rd SV).duties (cellX b true s c) (s / 2) \ ∅) (fun d => (Rd SV).payload (cellX b true s c) (s / 2) d) = recvPay SV b s c := by
  rw [Finset.sdiff_empty, duties_X SV c b true hs, bigSep_singleton, payload_recv]

end Table

/-! ## What a device owes; the levels -/

/-- The credit the transfers still to be sent owe their receivers, in order, the next first. -/
def debt (c : Dev nD) : List (Bool × ℕ) → CellTallies nD τ sig ℕ
  | [] => 0
  | x :: l => debt c l + tallyAt (cellX x.1 true x.2 (up x.1 c)) x.2 N

/-- Both directions' transfers from step `s` on, direction `false` first. -/
def rem (s : ℕ) : List (Bool × ℕ) := (List.range' s (6 - s)).flatMap fun t => [(false, t), (true, t)]

/-- At launch, beside the transfers, one unit to each neighbour's barrier. -/
def O₁ (c : Dev nD) : CellTallies nD τ sig ℕ := debt c (rem 0) + tallyAt (barCell (up false c)) 0 1
def O₀ (c : Dev nD) : CellTallies nD τ sig ℕ := O₁ c + tallyAt (barCell (up true c)) 0 1

/-- A step names an index of the TensorCore cells. -/
def L (g : GSem nD τ sig) : Finset ℕ := if g.1.2 = .tc then Finset.range 6 else ∅
/-- Staging and send cells lowest, the barrier next, a receive cell at its step. -/
def lv (g : GSem nD τ sig) (i : ℕ) : ℕ := match kd g.2 with
  | some none => 1
  | some (some (_, true, _)) => i + 2
  | _ => 0

theorem L_of_ne (g : GSem nD τ sig) (h : g.1.2 ≠ .tc) : L g = ∅ := if_neg h
theorem mem_L (c : Dev nD) (sm : SemLoc sig) {i : ℕ} (hi : i < 6) : i ∈ L ((c : Thread nD τ), sm) := by
  unfold L; rw [if_pos rfl]; exact Finset.mem_range.mpr hi
theorem lv_bar (c : Dev nD) (i : ℕ) : lv (barCell c) i = 1 := by unfold lv; rw [kd_bar]
theorem lv_send (b : Bool) (s : ℕ) (c : Dev nD) (i : ℕ) : lv (cellX b false s c) i = 0 := by unfold lv; rw [kd_semX]
theorem lv_recv (b : Bool) (s : ℕ) (c : Dev nD) (i : ℕ) : lv (cellX b true s c) i = i + 2 := by unfold lv; rw [kd_semX]

theorem debt_pos {c : Dev nD} {g : GSem nD τ sig} {i : ℕ} : ∀ {l : List (Bool × ℕ)}, 0 < debt c l g i →
    ∃ x ∈ l, g = cellX x.1 true x.2 (up x.1 c) ∧ i = x.2
  | [], h => absurd h (Nat.lt_irrefl 0)
  | x :: l, h => by
    unfold debt at h
    rw [Pi.add_apply, Finsupp.add_apply, tallyAt_apply] at h
    by_cases hx : g = cellX x.1 true x.2 (up x.1 c) ∧ i = x.2
    · exact ⟨x, List.mem_cons_self, hx⟩
    · rw [if_neg hx, Nat.add_zero] at h
      obtain ⟨y, hy, hg⟩ := debt_pos h
      exact ⟨y, List.mem_cons_of_mem _ hy, hg⟩

/-- A device may wait on a cell below every transfer it still owes. -/
theorem mayWait (c : Dev nD) (sm : SemLoc sig) (i : ℕ) (hi : i < 6) (l : List (Bool × ℕ))
    (hl : ∀ x ∈ l, x.2 < 6 ∧ lv ((c : Thread nD τ), sm) i < x.2 + 2) :
    (levAts L lv : sProp 𝕄) ⊢ MayWait (c : Thread nD τ) sm i (debt c l) :=
  MayOwe.of_cut (L := L) (lev := lv) (lv ((c : Thread nD τ), sm) i)
    (fun p hp => by rw [Finset.mem_singleton.mp hp]; exact mem_L c sm hi)
    (fun g u hg => by
      obtain ⟨x, hx, rfl, rfl⟩ := debt_pos hg
      exact mem_L _ _ (hl x hx).1)
    (fun p hp => by rw [Finset.mem_singleton.mp hp])
    (fun g u hg => by
      obtain ⟨x, hx, rfl, rfl⟩ := debt_pos hg
      rw [lv_recv]; exact (hl x hx).2)

end Cert.Moe
-- ==== Proof.Moves.lean ====
/-
# The moves of the exchange

One lemma per kind of move — start the transfer of a step, wait for its departure, wait for the arrival of the same step —
generic in the direction and the step. A direction's own state (`dirS`, `dirW`, `dirV`: before the transfer, in flight,
departed) bundles the tokens of the transfers to come, the credit of the arrivals to come and the positions.
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (SV : Bool → ℕ → Dev nD → V4 F)

/-! ## The records every device keeps -/

/-- The exchange's cells. -/
abbrev kcell (x : Dev nD × Kind') : GSem nD τ sig := ((x.1 : Thread nD τ), ksem x.2)

/-- The cells' invariants, under the names `K`, and the levels. -/
def recsAt (K : Dev nD × Kind' → ℕ) : sProp 𝕄 :=
  iprop((bigSep Finset.univ fun x => iprop(cellInv ER (Rd SV) (K x) (kcell x) ∗ reached ER (kcell x) 0)) ∗ levAts L lv)

/-- The same, the names forgotten. -/
def recs : sProp 𝕄 := iprop(∃ K, recsAt SV K)

instance recs_persistent : BI.Persistent (recs SV) := by unfold recs recsAt; infer_instance

theorem recs_at (K : Dev nD × Kind' → ℕ) (x : Dev nD × Kind') :
    (bigSep Finset.univ fun x => (iprop(cellInv ER (Rd SV) (K x) (kcell x) ∗ reached ER (kcell x) 0) : sProp 𝕄))
      ⊢ iprop(cellInv ER (Rd SV) (K x) (kcell x) ∗ reached ER (kcell x) 0) :=
  bigSep_elim (Finset.mem_univ x)

theorem recs_cell (x : Dev nD × Kind') : recs SV ⊢ iprop(∃ κ, cellInv ER (Rd SV) κ (kcell x)) := by
  unfold recs recsAt
  iintro ⟨%K, H, -⟩
  ihave H := (recs_at SV K x) $$ H
  icases H with ⟨H, -⟩
  iexists K x; iexact H
theorem recs_reached (x : Dev nD × Kind') : recs SV ⊢ reached ER (kcell x) 0 := by
  unfold recs recsAt
  iintro ⟨%K, H, -⟩
  ihave H := (recs_at SV K x) $$ H
  icases H with ⟨-, H⟩
  iexact H
theorem recs_lev : recs SV ⊢ levAts L lv := by
  unfold recs recsAt
  iintro ⟨%K, -, H⟩
  iexact H

theorem recs_cellX (b rv : Bool) (s : ℕ) (c : Dev nD) : recs SV ⊢ iprop(∃ κ, cellInv ER (Rd SV) κ (cellX b rv s c)) := by
  have h := recs_cell SV (c, some (b, rv, s % 2 == 1))
  rw [show kcell (c, some (b, rv, s % 2 == 1)) = cellX b rv s c from by rw [kcell, ← semX_eq]] at h
  exact h

/-! ## A pair of cells' position -/

theorem cellX_mod (b rv : Bool) (s : ℕ) (c : Dev nD) : cellX b rv s c = cellX b rv (s % 2) c := by
  show ((c : Thread nD τ), SemLoc.dma (semX b rv s)) = ((c : Thread nD τ), SemLoc.dma (semX b rv (s % 2)))
  rw [semX_eq, semX_eq, Nat.mod_mod]

/-- At round `r` of the cell of slot `s`, nothing of it taken. -/
def atX (b rv : Bool) (s r : ℕ) (c : Dev nD) : sProp 𝕄 := iprop(atPos ER (cellX b rv s c) r ∅ 0 ∗ reached ER (cellX b rv s c) r)

/-- Both slots' position after `s` steps. -/
def posX (b rv : Bool) (s : ℕ) (c : Dev nD) : sProp 𝕄 := iprop(atX b rv 0 ((s + 1) / 2) c ∗ atX b rv 1 (s / 2) c)

theorem posX_open (b rv : Bool) (s : ℕ) (c : Dev nD) :
    (posX b rv s c : sProp 𝕄) ⊢ iprop(atX b rv s (s / 2) c ∗ (atX b rv s (s / 2 + 1) c -∗ posX b rv (s + 1) c)) := by
  unfold posX atX
  rw [cellX_mod b rv s c]
  rcases Nat.mod_two_eq_zero_or_one s with h | h
  · rw [h, show (s + 1) / 2 = s / 2 by omega, show (s + 1 + 1) / 2 = s / 2 + 1 by omega]
    iintro ⟨H0, H1⟩
    isplitl [H0]; · iexact H0
    iintro H0
    isplitl [H0] <;> iassumption
  · rw [h, show (s + 1) / 2 = s / 2 + 1 by omega, show (s + 1 + 1) / 2 = s / 2 + 1 by omega]
    iintro ⟨H0, H1⟩
    isplitl [H1]; · iexact H1
    iintro H1
    isplitl [H0] <;> iassumption

theorem posX_pair (b rv : Bool) (s : ℕ) (c : Dev nD) :
    (posX b rv s c : sProp 𝕄) ⊢ iprop(posX b rv s c ∗ reached ER (cellX b rv 0 c) ((s + 1) / 2) ∗ reached ER (cellX b rv 1 c) (s / 2)) := by
  unfold posX atX
  iintro ⟨⟨H0, #R0⟩, H1, #R1⟩
  isplitr []
  · isplitl [H0]
    · isplitl [H0]; · iexact H0
      iexact R0
    isplitl [H1]; · iexact H1
    iexact R1
  isplitr; · iexact R0
  iexact R1

theorem posX_reached (b rv : Bool) (s : ℕ) (c : Dev nD) :
    (posX b rv s c : sProp 𝕄) ⊢ iprop(posX b rv s c ∗ reached ER (cellX b rv (s + 1) c) ((s + 1) / 2)) := by
  refine (posX_pair b rv s c).trans (sep_mono_right ?_)
  rw [cellX_mod b rv (s + 1) c]
  rcases Nat.mod_two_eq_zero_or_one (s + 1) with h | h
  · rw [h]; iintro ⟨H, -⟩; iexact H
  · rw [h, show (s + 1) / 2 = s / 2 by omega]; iintro ⟨-, H⟩; iexact H

theorem posX_here (b rv : Bool) (s : ℕ) (c : Dev nD) :
    (posX b rv s c : sProp 𝕄) ⊢ iprop(posX b rv s c ∗ reached ER (cellX b rv s c) (s / 2)) := by
  refine (posX_pair b rv s c).trans (sep_mono_right ?_)
  rw [cellX_mod b rv s c]
  rcases Nat.mod_two_eq_zero_or_one s with h | h
  · rw [h, show (s + 1) / 2 = s / 2 by omega]; iintro ⟨H, -⟩; iexact H
  · rw [h]; iintro ⟨-, H⟩; iexact H

/-! ## A direction's state -/

/-- The two duty tokens of each transfer to come. -/
def tks (b : Bool) (c : Dev nD) : List ℕ → sProp 𝕄
  | [] => iprop(emp)
  | s :: l => iprop((dutyTok ER (cellX b false s c) (s / 2) false ∗ dutyTok ER (cellX b true s (up b c)) (s / 2) false) ∗ tks b c l)
/-- The credit of each arrival to come. -/
def crd (b : Bool) (c : Dev nD) : List ℕ → sProp 𝕄
  | [] => iprop(emp)
  | s :: l => iprop(cred (tallyAt (cellX b true s c) s N) ∗ crd b c l)

/-- The steps from `s` on. -/
abbrev from' (s : ℕ) : List ℕ := List.range' s (6 - s)
theorem from_cons {s : ℕ} (hs : s < 6) : from' s = s :: from' (s + 1) := by
  unfold from'; rw [show 6 - s = (6 - (s + 1)) + 1 by omega, List.range'_succ]

/-- Before the transfer of step `s`. -/
def dirS (b : Bool) (c : Dev nD) (s : ℕ) : sProp 𝕄 :=
  iprop(tks b c (from' s) ∗ crd b c (from' s) ∗ posX b false s c ∗ posX b true s c)
/-- The transfer of step `s` in flight. -/
def dirW (b : Bool) (c : Dev nD) (s : ℕ) : sProp 𝕄 :=
  iprop(cred (tallyAt (cellX b false s c) 0 N) ∗ tks b c (from' (s + 1)) ∗ crd b c (from' s) ∗ posX b false s c ∗ posX b true s c)
/-- It has departed. -/
def dirV (b : Bool) (c : Dev nD) (s : ℕ) : sProp 𝕄 :=
  iprop(tks b c (from' (s + 1)) ∗ crd b c (from' s) ∗ posX b false (s + 1) c ∗ posX b true s c)

theorem dirS_reached (b : Bool) (c : Dev nD) (s : ℕ) :
    (dirS b c s : sProp 𝕄) ⊢ iprop(dirS b c s ∗ reached ER (cellX b true (s + 1) c) ((s + 1) / 2)) := by
  unfold dirS
  iintro ⟨H1, H2, H3, H4⟩
  ihave H4 := (posX_reached b true s c) $$ H4
  icases H4 with ⟨H4, H5⟩
  isplitr [H5]
  · isplitl [H1]; · iexact H1
    isplitl [H2]; · iexact H2
    isplitl [H3] <;> iassumption
  iexact H5
theorem dirW_reached (b : Bool) (c : Dev nD) (s : ℕ) :
    (dirW b c s : sProp 𝕄) ⊢ iprop(dirW b c s ∗ reached ER (cellX b true (s + 1) c) ((s + 1) / 2)) := by
  unfold dirW
  iintro ⟨H0, H1, H2, H3, H4⟩
  ihave H4 := (posX_reached b true s c) $$ H4
  icases H4 with ⟨H4, H5⟩
  isplitr [H5]
  · isplitl [H0]; · iexact H0
    isplitl [H1]; · iexact H1
    isplitl [H2]; · iexact H2
    isplitl [H3] <;> iassumption
  iexact H5

/-- What is still owed, whatever was waited for. -/
def ow (c : Dev nD) (l : List (Bool × ℕ)) : sProp 𝕄 := iprop(∃ W, owes (c : Thread nD τ) (debt c l) W)

/-! ## The transfer of a step -/

section Moves
variable (c : Dev nD) (b : Bool) (s : ℕ) (hs : s < 6) (l : List (Bool × ℕ))
include hs

theorem send_step {c' : Dev nD} (hc : c' = up b c) {src dst : Memref sig .tc .vmem S256x512 .bf16}
    (hsrc' : src = accQ b (ck c (sr b s))) (hdst' : dst = dstM b s (ck c (sr b s))) {sS sR : DmaSem sig} (hS : sS = semX b false s) (hR : sR = semX b true s)
    {hsc : dst.view.ref.isScScratch = false} {hsrc : src.view.WordExact} {hdst : dst.view.WordExact}
    {hsem : DmaTarget.Typed .vmem (.dma sR) (.remote (Dev.tc c' : Thread nD τ) dst (.dma sS) hsc)}
    {α : Type} {Q : α → sProp 𝕄} {k : PUnit → Prog (TpuEff nD τ sig (Elt F) Λ₀ .tc) α} :
    iprop(recs SV ∗ dirS b c s ∗ accP c b (ck c (sr b s)) (lent s) (SV b s c) ∗ permit b s c ∗ feed b s (up b c) ∗ ow c ((b, s) :: l))
      ⊢ iprop(((dirW b c s ∗ ow c l) -∗ wp frame (wpE (defs₀ (F := F)) 𝒱₀ (c : Thread nD τ) none) Set.univ (k PUnit.unit) Q)
          -∗ wp frame (wpE (defs₀ (F := F)) 𝒱₀ (c : Thread nD τ) none) Set.univ
              (.op (.enqueueDma src (.remote (Dev.tc c' : Thread nD τ) dst (.dma sS) hsc) (.dma sR) hsrc hdst hsem) k) Q) := by
  subst hc hsrc' hdst' hS hR
  unfold dirS ow permit
  rw [from_cons hs, tks]
  iintro ⟨#HR, ⟨⟨⟨Ht1, Ht2⟩, Htk⟩, Hcr, Hps, Hpr⟩, Hsrc, ⟨Hdst, #Hrr⟩, Hf, ⟨%W, Ho⟩⟩ Hk
  ihave Hi1 := (recs_cellX SV b false s c) $$ HR
  ihave Hi2 := (recs_cellX SV b true s (up b c)) $$ HR
  icases Hi1 with ⟨%κ₁, #Hi1⟩
  icases Hi2 with ⟨%κ₂, #Hi2⟩
  ihave Hps := (posX_here b false s c) $$ Hps
  icases Hps with ⟨Hps, #Hrs⟩
  ihave Hsrc := (Entails.of_eq (accP_eq c b (ck c (sr b s)) (lent s) (SV b s c)).symm) $$ Hsrc
  have e1 : false ∈ (Rd SV).duties (cellX b false s c) (s / 2) := by rw [duties_X SV c b false hs]; exact Finset.mem_singleton_self _
  have e2 : false ∈ (Rd SV).duties (cellX b true s (up b c)) (s / 2) := by rw [duties_X SV (up b c) b true hs]; exact Finset.mem_singleton_self _
  have e3 : (ownsTc c (accQ b (ck c (sr b s))) (lent s) (to2 (SV b s c)) : sProp 𝕄) ⊢ (Rd SV).payload (cellX b false s c) (s / 2) false := by
    rw [payload_send, accP_eq]; exact BI.Entails.refl _
  have e4 : (iprop(ownsTc (up b c) (dstM b s (ck c (sr b s))) fullShare (to2 (SV b s c)) ∗ feed b s (up b c)) : sProp 𝕄)
      ⊢ (Rd SV).payload (cellX b true s (up b c)) (s / 2) false := by
    rw [payload_recv]; unfold recvPay; rw [ck_up b c hs, up_up']
  iapply (send_owned c (Rd SV) (c' := up b c) (src := accQ b (ck c (sr b s))) (dst := dstM b s (ck c (sr b s))) (q := lent s) (to2 (SV b s c)) (feed b s (up b c)) (s / 2) (s / 2) false false κ₁ κ₂
    e1 e2
    s 0 N ((View.amount_dma _ _).trans (credit_dst b s (ck c (sr b s)))) (amount_X SV c b false s (s / 2) false) (amount_X SV (up b c) b true s (s / 2) false)
    (debt c l) rfl (W := W)
    e3 e4) $$ [Hsrc Hdst Hf Ho Ht1 Ht2]
  · isplitr; · iexact Hi1
    isplitr; · iexact Hi2
    isplitl [Hsrc]; · iexact Hsrc
    isplitl [Hdst]; · iexact Hdst
    isplitl [Hf]; · iexact Hf
    isplitl [Ho]; · iexact Ho
    isplitl [Ht1]; · iexact Ht1
    isplitr; · iexact Hrs
    isplitl [Ht2]; · iexact Ht2
    iexact Hrr
  iintro ⟨Hc, Ho⟩
  iapply Hk
  isplitr [Ho]
  · unfold dirW
    isplitl [Hc]; · iexact Hc
    isplitl [Htk]; · iexact Htk
    isplitl [Hcr]; · rw [from_cons hs]; iexact Hcr
    isplitl [Hps]; · iexact Hps
    iexact Hpr
  · iexists W; iexact Ho

/-- The wait for a step's departure: the lent share comes back. -/
theorem wait_send (hl : ∀ x ∈ l, x.2 < 6) {sS : DmaSem sig} (hS : sS = semX b false s)
    {sp sp' : Space} {s' s'' : Shape} {e e' : EltTy} {κ' : Kind} {src : Memref sig .tc sp' s' e'} {dst : Memref sig κ' sp s'' e}
    {hsrc : src.view.WordExact} {hdst : dst.view.WordExact} (hN : dst.view.dmaCredit = N)
    {α : Type} {Q : α → sProp 𝕄} {k : PUnit → Prog (TpuEff nD τ sig (Elt F) Λ₀ .tc) α} :
    iprop(recs SV ∗ dirW b c s ∗ ow c l)
      ⊢ iprop(((dirV b c s ∗ ow c l ∗ accP c b (ck c (sr b s)) (lent s) (SV b s c))
            -∗ wp frame (wpE (defs₀ (F := F)) 𝒱₀ (c : Thread nD τ) none) Set.univ (k PUnit.unit) Q)
          -∗ wp frame (wpE (defs₀ (F := F)) 𝒱₀ (c : Thread nD τ) none) Set.univ (.op (.waitDma2 sS src dst hsrc hdst) k) Q) := by
  subst hS
  unfold dirW ow
  iintro ⟨#HR, ⟨Hc, Htk, Hcr, Hps, Hpr⟩, ⟨%W, Ho⟩⟩ Hk
  ihave Hi := (recs_cellX SV b false s c) $$ HR
  icases Hi with ⟨%κ, #Hi⟩
  ihave Hps := (posX_open b false s c) $$ Hps
  unfold atX
  icases Hps with ⟨⟨Hat, #Hrs⟩, Hback⟩
  have e1 : 0 + dst.view.dmaCredit = (Rd SV).expect (cellX b false s c) (s / 2) := by rw [Nat.zero_add, hN, expect_X SV c b false hs]
  iapply (Rounds.wp_wait_rest_token 𝒱₀ ER (Rd SV) (c : Thread nD τ) none (κ := κ)
    (wpE_waitDma2_eq 𝒱₀ (c : Thread nD τ) none Set.univ) (Set.mem_univ _) 0 (O := debt c l) (W := W) (R := s / 2) (m := 0) (T := ∅)
    e1) $$ [Hc Ho Hat]
  · isplitr; · iexact Hi
    isplitl [Hc]; · rw [hN]; iexact Hc
    isplitl [Ho]; · iexact Ho
    isplitr
    · iapply (mayWait c (.dma (semX b false s)) 0 (by decide) l (fun x hx => ⟨hl x hx, by rw [lv_send]; omega⟩))
      iapply (recs_lev SV); iexact HR
    iexact Hat
  iintro ⟨Ho, Hat, #Hr, Hpay⟩
  ihave Hpay := (Entails.of_eq (rest_send SV c b hs)) $$ Hpay
  iapply Hk
  isplitr [Ho Hpay]
  · unfold dirV
    isplitl [Htk]; · iexact Htk
    isplitl [Hcr]; · iexact Hcr
    isplitr [Hpr]
    · iapply Hback
      isplitl [Hat]; · iexact Hat
      iexact Hr
    iexact Hpr
  isplitl [Ho]; · iexists _; iexact Ho
  unfold sendPay; iexact Hpay

/-- The wait for a step's arrival: the landed values, and the permit that came along. -/
theorem wait_recv (hl : ∀ x ∈ l, s < x.2 ∧ x.2 < 6) {sS : DmaSem sig} (hS : sS = semX b true s)
    {sp sp' : Space} {s' s'' : Shape} {e e' : EltTy} {κ' : Kind} {src : Memref sig .tc sp' s' e'} {dst : Memref sig κ' sp s'' e}
    {hsrc : src.view.WordExact} {hdst : dst.view.WordExact} (hN : dst.view.dmaCredit = N)
    {α : Type} {Q : α → sProp 𝕄} {k : PUnit → Prog (TpuEff nD τ sig (Elt F) Λ₀ .tc) α} :
    iprop(recs SV ∗ dirV b c s ∗ ow c l)
      ⊢ iprop(((dirS b c (s + 1) ∗ ow c l ∗ recvPay SV b s c)
            -∗ wp frame (wpE (defs₀ (F := F)) 𝒱₀ (c : Thread nD τ) none) Set.univ (k PUnit.unit) Q)
          -∗ wp frame (wpE (defs₀ (F := F)) 𝒱₀ (c : Thread nD τ) none) Set.univ (.op (.waitDma2 sS src dst hsrc hdst) k) Q) := by
  subst hS
  unfold dirV ow
  rw [from_cons hs, crd]
  iintro ⟨#HR, ⟨Htk, ⟨Hc, Hcr⟩, Hps, Hpr⟩, ⟨%W, Ho⟩⟩ Hk
  ihave Hi := (recs_cellX SV b true s c) $$ HR
  icases Hi with ⟨%κ, #Hi⟩
  ihave Hpr := (posX_open b true s c) $$ Hpr
  unfold atX
  icases Hpr with ⟨⟨Hat, #Hrs⟩, Hback⟩
  have e1 : 0 + dst.view.dmaCredit = (Rd SV).expect (cellX b true s c) (s / 2) := by rw [Nat.zero_add, hN, expect_X SV c b true hs]
  iapply (Rounds.wp_wait_rest_token 𝒱₀ ER (Rd SV) (c : Thread nD τ) none (κ := κ)
    (wpE_waitDma2_eq 𝒱₀ (c : Thread nD τ) none Set.univ) (Set.mem_univ _) s (O := debt c l) (W := W) (R := s / 2) (m := 0) (T := ∅)
    e1) $$ [Hc Ho Hat]
  · isplitr; · iexact Hi
    isplitl [Hc]; · rw [hN]; iexact Hc
    isplitl [Ho]; · iexact Ho
    isplitr
    · iapply (mayWait c (.dma (semX b true s)) s hs l (fun x hx => ⟨(hl x hx).2, by rw [lv_recv]; have := (hl x hx).1; omega⟩))
      iapply (recs_lev SV); iexact HR
    iexact Hat
  iintro ⟨Ho, Hat, #Hr, Hpay⟩
  ihave Hpay := (Entails.of_eq (rest_recv SV c b hs)) $$ Hpay
  iapply Hk
  isplitr [Ho Hpay]
  · unfold dirS
    isplitl [Htk]; · iexact Htk
    isplitl [Hcr]; · iexact Hcr
    isplitl [Hps]; · iexact Hps
    iapply Hback
    isplitl [Hat]; · iexact Hat
    iexact Hr
  isplitl [Ho]; · iexists _; iexact Ho
  iexact Hpay

end Moves

end Cert.Moe
-- ==== Proof.Values.lean ====
/-
# The values of the exchange, and the loads and stores that read and write them
-/
module

public import proofs.«01_k».proof.Proof.Moves

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The devices' inputs, and what the exchange computes of them -/

/-- What the five input windows hold on each device. -/
structure Inp (F : FTy → Type) [FloatOps F] where
  x : Dev nD → Vec F S1024x512 .f32
  rw : Dev nD → Vec F S512x16 .f32
  ix : Dev nD → Vec F S1024x1 .i32
  ew : Dev nD → Vec F S4x512x1024 .f32
  sw : Dev nD → Vec F S512x1024 .f32

theorem row_inb (k : Fin 4) : ∀ a, (![256 * k.val, 0] : Fin 2 → ℕ) a + S256x512.size a ≤ S1024x512.size a := by revert k; decide
theorem cof_inb (k : Fin 4) : ∀ a, (![256 * k.val, 0] : Fin 2 → ℕ) a + S256x4.size a ≤ S1024x4.size a := by revert k; decide
theorem exp_inb (e : Fin 4) : ∀ a, (![e.val, 0, 0] : Fin 3 → ℕ) a + S1x512x1024.size a ≤ S4x512x1024.size a := by revert e; decide
theorem out_inb (b : Bool) (k : Fin 4) : ∀ a, (![256 * k.val, cond b 512 0] : Fin 2 → ℕ) a + S256x512.size a ≤ S1024x1024.size a := by
  revert b k; decide

abbrev rowR (k : Fin 4) : Rect S1024x512 := Rect.unit (s := S1024x512) ![256 * k.val, 0] S256x512.size (row_inb k)
abbrev cofR (k : Fin 4) : Rect S1024x4 := Rect.unit (s := S1024x4) ![256 * k.val, 0] S256x4.size (cof_inb k)
abbrev expR (e : Fin 4) : Rect S4x512x1024 := Rect.unit (s := S4x512x1024) ![e.val, 0, 0] S1x512x1024.size (exp_inb e)
abbrev outR (b : Bool) (k : Fin 4) : Rect S1024x1024 := Rect.unit (s := S1024x1024) ![256 * k.val, cond b 512 0] S256x512.size (out_inb b k)

/-- A chunk of the tokens' rows, -/
def rows (X : Vec F S1024x512 .f32) (k : Fin 4) : Vec F S256x512 .f32 := fun j => X ((rowR k).emb j)
/-- of their coefficients, -/
def cofs (X : Vec F S1024x4 .f32) (k : Fin 4) : Vec F S256x4 .f32 := fun j => X ((cofR k).emb j)
/-- and one expert's weights. -/
def expert (X : Vec F S4x512x1024 .f32) (e : Fin 4) : Vec F S1x512x1024 .f32 := fun j => X ((expR e).emb j)

/-- A device's word for itself. -/
def myWord (c : Dev nD) : BitVec 32 := Scalar.remsi (Scalar.divsi (Dev.word c) 1#32) 4#32

/-- The coefficients device `c` computes. -/
def cof (I : Inp F) (c : Dev nD) : Vec F S1024x4 .f32 := k0_pay3 (myWord c) (k0_pay2 (I.x c)) (I.rw c) (I.ix c)

/-- One chunk of the tokens through one device's experts, the column half of a direction. -/
def part' (b : Bool) (x : Vec F S256x512 .f32) (q : Vec F S256x4 .f32) (e0 e1 e2 e3 : Vec F S1x512x1024 .f32) : V4 F :=
  match b with
  | false => k0_pay7 (k0_pay4 x) q (k0_pay5 x q) e0 e1 e2 e3
  | true => k0_pay8 (k0_pay4 x) q (k0_pay5 x q) e0 e1 e2 e3
def part (I : Inp F) (b : Bool) (c : Dev nD) (k : Fin 4) : V4 F :=
  part' b (rows (I.x c) k) (cofs (cof I c) k) (expert (I.ew c) 0) (expert (I.ew c) 1) (expert (I.ew c) 2) (expert (I.ew c) 3)

/-- What a device holds of the chunk it sends at step `s`: its own part first, then the parts summed along the ring, then the
    completed chunks passed on. -/
def sent (I : Inp F) (b : Bool) : ℕ → Dev nD → V4 F
  | 0, c => part I b c (ck c (sr b 0))
  | s + 1, c => if s < 3 then k0_pay20 (part I b c (ck c (sr b (s + 1)))) (to3 (sent I b s (up (!b) c))) else sent I b s (up (!b) c)

/-- The shared expert's chunk. -/
def shared (I : Inp F) (c : Dev nD) (k : Fin 4) : FVec F S256x1024 .f32 := k0_pay30 (rows (I.x c) k) (I.sw c)

/-- The output's half chunk. -/
def half (b : Bool) (h : FVec F S256x1024 .f32) (v : V4 F) : Vec F S256x512 .f32 := match b with
  | false => k0_pay37 h (k0_pay36 v)
  | true => k0_pay38 h v

/-- The step by which a device holds the completed chunk `r` after its own. -/
def doneAt (b : Bool) (r : Fin 4) : ℕ := 3 + cond b ((r.val + 1) % 4) ((5 - r.val) % 4)
set_option backward.proofsInPublic true in
/-- Which chunk after its own a chunk is. -/
def off (c : Dev nD) (k : Fin 4) : Fin 4 := ⟨(k.val + 4 - c.val) % 4, Nat.mod_lt _ (by decide)⟩
theorem off_ck (c : Dev nD) (r : Fin 4) : off c (ck c r) = r := by revert c r; decide

/-- The output's half chunk on device `c`. -/
def outP (I : Inp F) (b : Bool) (c : Dev nD) (k : Fin 4) : Vec F S256x512 .f32 := half b (shared I c k) (sent I b (doneAt b (off c k)) c)

set_option backward.proofsInPublic true in
/-- A row's chunk, -/
def chunkOf (i : S1024x1024.Idx) : Fin 4 := ⟨(i 0).val / 256, by have : (i 0).val < 1024 := (i 0).isLt; omega⟩
/-- a column's half, -/
def halfOf (i : S1024x1024.Idx) : Bool := 512 ≤ (i 1).val
set_option backward.proofsInPublic true in
/-- the place in the half chunk. -/
def inChunk (i : S1024x1024.Idx) : S256x512.Idx := fun a => match a with
  | 0 => ⟨(i 0).val % 256, Nat.mod_lt _ (by decide)⟩
  | 1 => ⟨(i 1).val % 512, Nat.mod_lt _ (by decide)⟩

/-- The output of device `c`. -/
def out (I : Inp F) (c : Dev nD) : Vec F S1024x1024 .f32 := fun i => outP I (halfOf i) c (chunkOf i) (inChunk i)

theorem outR_emb (b : Bool) (k : Fin 4) (j : S256x512.Idx) :
    halfOf ((outR b k).emb j) = b ∧ chunkOf ((outR b k).emb j) = k ∧ inChunk ((outR b k).emb j) = j := by
  have h0 : (((outR b k).emb j) 0).val = 256 * k.val + (j 0).val := by simp [Rect.unit, Rect.emb]
  have h1 : (((outR b k).emb j) 1).val = cond b 512 0 + (j 1).val := by simp [Rect.unit, Rect.emb]
  have j0 : (j 0).val < 256 := (j 0).isLt
  have j1 : (j 1).val < 512 := (j 1).isLt
  refine ⟨?_, Fin.ext ?_, funext fun a => ?_⟩
  · unfold halfOf; rw [h1]; cases b <;> simp <;> omega
  · unfold chunkOf; simp only [h0]; omega
  · fin_cases a
    · exact Fin.ext (show (((outR b k).emb j) 0).val % 256 = (j 0).val by rw [h0]; omega)
    · exact Fin.ext (show (((outR b k).emb j) 1).val % 512 = (j 1).val by rw [h1]; cases b <;> simp <;> omega)

theorem out_at (I : Inp F) (c : Dev nD) (b : Bool) (k : Fin 4) (j : S256x512.Idx) : outP I b c k j = out I c ((outR b k).emb j) := by
  obtain ⟨h1, h2, h3⟩ := outR_emb b k j
  unfold out; rw [h1, h2, h3]

theorem mem_outR (i : S1024x1024.Idx) : i ∈ (outR (halfOf i) (chunkOf i)).set := by
  have h0 : (i 0).val < 1024 := (i 0).isLt
  have h1 : (i 1).val < 1024 := (i 1).isLt
  rw [Rect.mem_set_unit]
  intro a
  fin_cases a
  · show 256 * ((i 0).val / 256) ≤ (i 0).val ∧ (i 0).val < 256 * ((i 0).val / 256) + 256
    omega
  · show cond (halfOf i) 512 0 ≤ (i 1).val ∧ (i 1).val < cond (halfOf i) 512 0 + 512
    unfold halfOf
    by_cases h : 512 ≤ (i 1).val <;> simp [h] <;> omega

/-! ## The payloads are these -/

theorem pay_part1 (b : Bool) (x : Vec F S256x512 .f32) (q : Vec F S256x4 .f32) (e0 e1 e2 e3 : Vec F S1x512x1024 .f32) :
    k0_pay13 (k0_pay9 x) q (k0_pay10 x q) (k0_pay11 e0) (constant S256x1024 .f32 0x00000000#32) e1 e2 e3 = part' false x q e0 e1 e2 e3 := rfl
theorem pay_part2 (b : Bool) (x : Vec F S256x512 .f32) (q : Vec F S256x4 .f32) (e0 e1 e2 e3 : Vec F S1x512x1024 .f32) :
    k0_pay14 (k0_pay9 x) q (k0_pay10 x q) (k0_pay11 e0) (constant S256x1024 .f32 0x00000000#32) e1 e2 e3 = part' true x q e0 e1 e2 e3 := rfl
theorem pay_part3 (x : Vec F S256x512 .f32) (q : Vec F S256x4 .f32) (e0 e1 e2 e3 : Vec F S1x512x1024 .f32) :
    k0_pay17 (k0_pay15 x) q e0 e1 e2 e3 = part' false x q e0 e1 e2 e3 := rfl
theorem pay_part4 (x : Vec F S256x512 .f32) (q : Vec F S256x4 .f32) (e0 e1 e2 e3 : Vec F S1x512x1024 .f32) :
    k0_pay19 (k0_pay18 (k0_pay15 x) q e0 e1 e2 e3) = part' true x q e0 e1 e2 e3 := rfl
theorem pay_part5 (x : Vec F S256x512 .f32) (q : Vec F S256x4 .f32) (e0 e1 e2 e3 : Vec F S1x512x1024 .f32) :
    k0_pay26 (k0_pay23 x) q (k0_pay24 x q) e0 e1 e2 e3 = part' false x q e0 e1 e2 e3 := rfl
theorem pay_part6 (x : Vec F S256x512 .f32) (q : Vec F S256x4 .f32) (e0 e1 e2 e3 : Vec F S1x512x1024 .f32) :
    k0_pay27 (k0_pay23 x) q (k0_pay24 x q) e0 e1 e2 e3 = part' true x q e0 e1 e2 e3 := rfl
theorem pay_acc1 (v : V4 F) (w : Vec F S1x256x512 .bf16) : k0_pay22 (k0_pay21 v w) = k0_pay20 v w := rfl
theorem pay_acc2 (v : V4 F) (w : Vec F S1x256x512 .bf16) : k0_pay28 v w = k0_pay20 v w := rfl
theorem pay_acc3 (v : V4 F) (w : Vec F S1x256x512 .bf16) : k0_pay29 v w = k0_pay20 v w := rfl
theorem pay_acc4 (v : V4 F) (w : Vec F S1x256x512 .bf16) : k0_pay32 v w = k0_pay20 v w := rfl
theorem pay_acc5 (v : V4 F) (w : Vec F S1x256x512 .bf16) : k0_pay33 v w = k0_pay20 v w := rfl
theorem pay_sh1 (x : Vec F S256x512 .f32) (w : Vec F S512x1024 .f32) : k0_pay31 x w = k0_pay30 x w := rfl
theorem pay_sh2 (x : Vec F S256x512 .f32) (w : Vec F S512x1024 .f32) : k0_pay34 x w = k0_pay30 x w := rfl
theorem pay_sh3 (x : Vec F S256x512 .f32) (w : Vec F S512x1024 .f32) : k0_pay35 x w = k0_pay30 x w := rfl
theorem pay_out1 (h : FVec F S256x1024 .f32) (v : V4 F) : k0_pay39 h v = half false h v := rfl
theorem pay_out2 (h : FVec F S256x1024 .f32) (v : V4 F) : k0_pay40 h v = half true h v := rfl
theorem pay_out3 (h : FVec F S256x1024 .f32) (v : V4 F) : k0_pay41 h v = half false h v := rfl
theorem pay_out4 (h : FVec F S256x1024 .f32) (v : V4 F) : k0_pay42 h v = half true h v := rfl
theorem pay_out5 (h : FVec F S256x1024 .f32) (v : V4 F) : k0_pay43 h v = half false h v := rfl
theorem pay_out6 (h : FVec F S256x1024 .f32) (v : V4 F) : k0_pay1 h v = half true h v := rfl

/-! ## Reading and writing them -/

/-- A rectangle of a shape's own sizes places every index at itself. -/
theorem emb_full {s : Shape} {o : Fin s.rank → ℕ} (inb : ∀ a, o a + s.size a ≤ s.size a) (z : (Rect.unit o s.size inb).shape.Idx) :
    (Rect.unit o s.size inb).emb z = z :=
  funext fun a => Fin.ext (by show o a + 1 * (z a).val = (z a).val; have := inb a; omega)

section Access
variable (c : Dev nD) {q : PosShare TreeShare}

theorem ld_x {o : Fin 2 → ℕ} {h} (k : Fin 4) (ho : o = ![256 * k.val, 0]) (X : Vec F S1024x512 .f32)
    {hl : (a0.view.LoadsAt (Rect.unit (s := S1024x512) o S256x512.size h).toLoadRect)} {α : Type} {Q : α → sProp 𝕄} {K : Vec F S256x512 .f32 → Prog (TpuEff nD τ sig (Elt F) Λ₀ .tc) α} :
    (ownsTc c a0 q X : sProp 𝕄)
      ⊢ iprop((ownsTc c a0 q X -∗ wp frame (wpE (defs₀ (F := F)) 𝒱₀ c none) Set.univ (K (rows X k)) Q)
        -∗ wp frame (wpE (defs₀ (F := F)) 𝒱₀ c none) Set.univ (.op (.load a0 (Rect.unit (s := S1024x512) o S256x512.size h).toLoadRect hl) K) Q) := by
  subst ho; exact load_part c a0 (rowR k) hl K q X

theorem ld_q {o : Fin 2 → ℕ} {h} (k : Fin 4) (ho : o = ![256 * k.val, 0]) (X : Vec F S1024x4 .f32)
    {hl : (a7.view.LoadsAt (Rect.unit (s := S1024x4) o S256x4.size h).toLoadRect)} {α : Type} {Q : α → sProp 𝕄} {K : Vec F S256x4 .f32 → Prog (TpuEff nD τ sig (Elt F) Λ₀ .tc) α} :
    (ownsTc c a7 q X : sProp 𝕄)
      ⊢ iprop((ownsTc c a7 q X -∗ wp frame (wpE (defs₀ (F := F)) 𝒱₀ c none) Set.univ (K (cofs X k)) Q)
        -∗ wp frame (wpE (defs₀ (F := F)) 𝒱₀ c none) Set.univ (.op (.load a7 (Rect.unit (s := S1024x4) o S256x4.size h).toLoadRect hl) K) Q) := by
  subst ho; exact load_part c a7 (cofR k) hl K q X

theorem ld_e {o : Fin 3 → ℕ} {h} (e : Fin 4) (ho : o = ![e.val, 0, 0]) (X : Vec F S4x512x1024 .f32)
    {hl : (a3.view.LoadsAt (Rect.unit (s := S4x512x1024) o S1x512x1024.size h).toLoadRect)} {α : Type} {Q : α → sProp 𝕄} {K : Vec F S1x512x1024 .f32 → Prog (TpuEff nD τ sig (Elt F) Λ₀ .tc) α} :
    (ownsTc c a3 q X : sProp 𝕄)
      ⊢ iprop((ownsTc c a3 q X -∗ wp frame (wpE (defs₀ (F := F)) 𝒱₀ c none) Set.univ (K (expert X e)) Q)
        -∗ wp frame (wpE (defs₀ (F := F)) 𝒱₀ c none) Set.univ (.op (.load a3 (Rect.unit (s := S4x512x1024) o S1x512x1024.size h).toLoadRect hl) K) Q) := by
  subst ho; exact load_part c a3 (expR e) hl K q X

/-- A load of a whole memref. -/
theorem ld_all {cs : CoreSpace} {sh : Shape} {e : EltTy} (m : Memref sig .tc cs sh e) {o : Fin sh.rank → ℕ} {h} (X : sh.Idx → Elt F e)
    {hl : (m.view.LoadsAt (Rect.unit (s := sh) o sh.size h).toLoadRect)} {α : Type} {Q : α → sProp 𝕄} {K : (sh.Idx → Elt F e) → Prog (TpuEff nD τ sig (Elt F) Λ₀ .tc) α} :
    (ownsTc c m q X : sProp 𝕄)
      ⊢ iprop((ownsTc c m q X -∗ wp frame (wpE (defs₀ (F := F)) 𝒱₀ c none) Set.univ (K X) Q)
        -∗ wp frame (wpE (defs₀ (F := F)) 𝒱₀ c none) Set.univ (.op (.load m (Rect.unit (s := sh) o sh.size h).toLoadRect hl) K) Q) := by
  have hX : (fun j => X ((Rect.unit (s := sh) o sh.size h).emb j)) = X := by funext j; rw [emb_full]
  have := load_part c m (Rect.unit (s := sh) o sh.size h) hl K q X (Q := Q)
  rw [hX] at this; exact this

/-- A store over a whole memref. -/
theorem st_all {cs : CoreSpace} {sh : Shape} {e : EltTy} (m : Memref sig .tc cs sh e) {o : Fin sh.rank → ℕ} {h} (X w : sh.Idx → Elt F e)
    {hx : (m.access (Rect.unit (s := sh) o sh.size h)).Stores Finset.univ} {hm} {α : Type} {Q : α → sProp 𝕄} {K : PUnit → Prog (TpuEff nD τ sig (Elt F) Λ₀ .tc) α} :
    (ownsTc c m fullShare X : sProp 𝕄)
      ⊢ iprop((ownsTc c m fullShare w -∗ wp frame (wpE (defs₀ (F := F)) 𝒱₀ c none) Set.univ (K ⟨⟩) Q)
        -∗ wp frame (wpE (defs₀ (F := F)) 𝒱₀ c none) Set.univ (.op (.store m (Rect.unit (s := sh) o sh.size h) w Finset.univ hx hm) K) Q) := by
  iintro H Hk
  iapply (store_known c m (Rect.unit (s := sh) o sh.size h) w hx hm K w ∅ (fun j => by rw [emb_full])) $$ [H]
  · iexists X
    isplitr; · ipureintro; intro i hi; exact absurd hi (Finset.notMem_empty i)
    iexact H
  iintro ⟨%Y, %hY, H⟩
  have : Y = w := by
    funext i
    refine hY i (Finset.mem_union_right _ ?_)
    rw [← Rect.map_emb_univ, Finset.mem_map]
    exact ⟨i, Finset.mem_univ _, emb_full h i⟩
  subst this
  iapply Hk; iexact H

/-- A load of an accumulator piece, -/
theorem ld_a (b : Bool) {o : Fin 4 → ℕ} {h} (k : Fin 4) (ho : o = ![cond b 1 0, k.val, 0, 0]) (v : V4 F)
    {hl : (a6.view.LoadsAt (Rect.unit (s := S2x4x256x512) o S1x1x256x512.size h).toLoadRect)} {α : Type} {Q : α → sProp 𝕄} {K : V4 F → Prog (TpuEff nD τ sig (Elt F) Λ₀ .tc) α} :
    (accP c b k q v : sProp 𝕄)
      ⊢ iprop((accP c b k q v -∗ wp frame (wpE (defs₀ (F := F)) 𝒱₀ c none) Set.univ (K v) Q)
        -∗ wp frame (wpE (defs₀ (F := F)) 𝒱₀ c none) Set.univ (.op (.load a6 (Rect.unit (s := S2x4x256x512) o S1x1x256x512.size h).toLoadRect hl) K) Q) := by
  subst ho; exact load_slice c a6 (accR b k) (fun _ => rfl) hl K q v
/-- a store over one, -/
theorem st_a (b : Bool) {o : Fin 4 → ℕ} {h} (k : Fin 4) (ho : o = ![cond b 1 0, k.val, 0, 0]) (v w : V4 F)
    {hx : (a6.access (Rect.unit (s := S2x4x256x512) o S1x1x256x512.size h)).Stores Finset.univ} {hm} {α : Type} {Q : α → sProp 𝕄} {K : PUnit → Prog (TpuEff nD τ sig (Elt F) Λ₀ .tc) α} :
    (accP c b k fullShare v : sProp 𝕄)
      ⊢ iprop((accP c b k fullShare w -∗ wp frame (wpE (defs₀ (F := F)) 𝒱₀ c none) Set.univ (K ⟨⟩) Q)
        -∗ wp frame (wpE (defs₀ (F := F)) 𝒱₀ c none) Set.univ (.op (.store a6 (Rect.unit (s := S2x4x256x512) o S1x1x256x512.size h) w Finset.univ hx hm) K) Q) := by
  subst ho; exact store_slice c a6 (accR b k) (fun _ => rfl) w hx hm K v
/-- and a load of a landing slot. -/
theorem ld_b (b : Bool) {o : Fin 3 → ℕ} {h} (s : ℕ) (ho : o = ![s % 2, 0, 0]) (v : Vec F S1x256x512 .bf16) {m : Memref sig .tc .vmem S2x256x512 .bf16} (hm : m = bufW b)
    {hl : (m.view.LoadsAt (Rect.unit (s := S2x256x512) o S1x256x512.size h).toLoadRect)} {α : Type} {Q : α → sProp 𝕄} {K : Vec F S1x256x512 .bf16 → Prog (TpuEff nD τ sig (Elt F) Λ₀ .tc) α} :
    (bufP c b s v : sProp 𝕄)
      ⊢ iprop((bufP c b s v -∗ wp frame (wpE (defs₀ (F := F)) 𝒱₀ c none) Set.univ (K v) Q)
        -∗ wp frame (wpE (defs₀ (F := F)) 𝒱₀ c none) Set.univ (.op (.load m (Rect.unit (s := S2x256x512) o S1x256x512.size h).toLoadRect hl) K) Q) := by
  subst ho hm; exact load_slice c (bufW b) (bufR s) (fun _ => rfl) hl K fullShare v

/-- The output, right on the half chunks listed. -/
def outD : List (Bool × Fin 4) → Finset S1024x1024.Idx
  | [] => ∅
  | x :: l => outD l ∪ (outR x.1 x.2).set
def outO (I : Inp F) (l : List (Bool × Fin 4)) : sProp 𝕄 :=
  iprop(∃ X : Vec F S1024x1024 .f32, ⌜∀ i ∈ outD l, X i = out I c i⌝ ∗ ownsTc c a5 fullShare X)

theorem ld_o (I : Inp F) (l : List (Bool × Fin 4)) {r : Rect S1024x1024} {hl : a5.view.LoadsAt r.toLoadRect}
    {α : Type} {Q : α → sProp 𝕄} {K : (r.toLoadRect.shape.Idx → Elt F .f32) → Prog (TpuEff nD τ sig (Elt F) Λ₀ .tc) α} :
    (outO c I l : sProp 𝕄)
      ⊢ iprop((∀ v, outO c I l -∗ wp frame (wpE (defs₀ (F := F)) 𝒱₀ c none) Set.univ (K v) Q)
        -∗ wp frame (wpE (defs₀ (F := F)) 𝒱₀ c none) Set.univ (.op (.load a5 r.toLoadRect hl) K) Q) := by
  unfold outO
  iintro ⟨%X, %hX, H⟩ Hk
  iapply (load_part c a5 r hl K fullShare X) $$ [H]
  · iexact H
  iintro H
  iapply Hk
  iexists X
  isplitr; · ipureintro; exact hX
  iexact H

theorem st_o (I : Inp F) (l : List (Bool × Fin 4)) (b : Bool) {o : Fin 2 → ℕ} {h} (k : Fin 4) (ho : o = ![256 * k.val, cond b 512 0])
    {w : Vec F S256x512 .f32} (hw : w = outP I b c k)
    {hx : (a5.access (Rect.unit (s := S1024x1024) o S256x512.size h)).Stores Finset.univ} {hm} {α : Type} {Q : α → sProp 𝕄} {K : PUnit → Prog (TpuEff nD τ sig (Elt F) Λ₀ .tc) α} :
    (outO c I l : sProp 𝕄)
      ⊢ iprop((outO c I ((b, k) :: l) -∗ wp frame (wpE (defs₀ (F := F)) 𝒱₀ c none) Set.univ (K ⟨⟩) Q)
        -∗ wp frame (wpE (defs₀ (F := F)) 𝒱₀ c none) Set.univ (.op (.store a5 (Rect.unit (s := S1024x1024) o S256x512.size h) w Finset.univ hx hm) K) Q) := by
  subst ho hw
  exact store_known c a5 (outR b k) _ hx hm K (out I c) (outD l) (fun j => out_at I c b k j)

end Access

/-! ## What landings bring, and what a transfer hands along -/

section Feeds
variable (SV : Bool → ℕ → Dev nD → V4 F) (c : Dev nD)

theorem feed_some (b : Bool) {s : ℕ} (h : 1 ≤ s ∧ s ≤ 4) (r : Dev nD) : (feed b s r : sProp 𝕄) = permit (!b) (s + 1) r := if_pos h
theorem feed_none (b : Bool) {s : ℕ} (h : ¬ (1 ≤ s ∧ s ≤ 4)) (r : Dev nD) : (feed b s r : sProp 𝕄) = iprop(emp) := if_neg h

/-- In the first three steps a landing fills a slot; -/
theorem recv_buf (b : Bool) {s : ℕ} (h : s < 3) : recvPay SV b s c = iprop(bufP c b s (to3 (SV b s (up (!b) c))) ∗ feed b s c) := by
  have e : dstM b s (ck c (sr b (s + 1))) = bufQ b s := by unfold dstM; rw [Nat.blt_eq.mpr h]; rfl
  unfold recvPay; rw [e, bufP_eq]
/-- afterwards, a chunk. -/
theorem recv_acc (b : Bool) {s : ℕ} (h : 3 ≤ s) :
    recvPay SV b s c = iprop(accP c b (ck c (sr b (s + 1))) fullShare (SV b s (up (!b) c)) ∗ feed b s c) := by
  have e : dstM b s (ck c (sr b (s + 1))) = accQ b (ck c (sr b (s + 1))) := by
    unfold dstM; rw [show Nat.blt s 3 = false from by rw [Bool.eq_false_iff]; intro hc; exact absurd (Nat.blt_eq.mp hc) (by omega)]; rfl
  unfold recvPay; rw [e, accP_eq]

theorem bufP_any (b : Bool) (s : ℕ) (w : Vec F S1x256x512 .bf16) : (bufP c b s w : sProp 𝕄) ⊢ iprop(∃ Y, ownsTc c (bufQ b s) fullShare Y) := by
  unfold bufP
  rw [← owns_squeeze c (bufM b s) squeezes_S1x256x512_S256x512 fullShare w]
  iintro H; iexists _; iexact H
theorem accP_any (b : Bool) (k : Fin 4) (v : V4 F) : (accP c b k fullShare v : sProp 𝕄) ⊢ iprop(∃ Y, ownsTc c (accQ b k) fullShare Y) := by
  rw [← accP_eq]; iintro H; iexists _; iexact H

/-- The barrier brings the first two permits. -/
theorem bar_permits (b : Bool) : iprop(recs SV ∗ barPay b c) ⊢ iprop(permit b 0 c ∗ permit b 1 c) := by
  have h0 := recs_reached SV (up b c, some (b, true, false))
  have h1 := recs_reached SV (up b c, some (b, true, true))
  rw [show kcell (up b c, some (b, true, false)) = cellX b true 0 (up b c) from by rw [kcell, show false = (0 % 2 == 1) from rfl, ← semX_eq]] at h0
  rw [show kcell (up b c, some (b, true, true)) = cellX b true 1 (up b c) from by rw [kcell, show true = (1 % 2 == 1) from rfl, ← semX_eq]] at h1
  unfold barPay permit
  iintro ⟨#HR, H0, H1⟩
  isplitl [H0]
  · isplitl [H0]; · iexact H0
    iapply h0; iexact HR
  · isplitl [H1]; · iexact H1
    iapply h1; iexact HR

/-- At step 1, the landing slot just read. -/
theorem feed_one (b : Bool) (w : Vec F S1x256x512 .bf16) :
    iprop(bufP c (!b) 0 w ∗ reached ER (cellX (!b) true 2 c) 1) ⊢ (feed b 1 (up b c) : sProp 𝕄) := by
  rw [feed_some b (by decide)]; unfold permit; rw [up_up']
  exact sep_mono_left (bufP_any c (!b) 0 w)
/-- At steps 2, 3, 4, a chunk sent earlier. -/
theorem feed_acc (b : Bool) {s : ℕ} (h : 2 ≤ s ∧ s ≤ 4) (v : V4 F) :
    iprop(accP c (!b) (ck c (sr (!b) (s + 2))) fullShare v ∗ reached ER (cellX (!b) true (s + 1) c) ((s + 1) / 2)) ⊢ (feed b s (up b c) : sProp 𝕄) := by
  have hk : ck (up b c) (sr (!b) (s + 1)) = ck c (sr (!b) (s + 2)) := by
    have := ck_up (!b) (up b c) (s := s + 1) (by omega)
    rw [up_up'] at this; exact this.symm
  have e : ∀ k, dstM (!b) (s + 1) k = accQ (!b) k := fun k => by
    unfold dstM; rw [show Nat.blt (s + 1) 3 = false from by rw [Bool.eq_false_iff]; intro hc; exact absurd (Nat.blt_eq.mp hc) (by omega)]; rfl
  rw [feed_some b (by omega)]; unfold permit; rw [up_up', hk, e]
  exact sep_mono_left (accP_any c (!b) _ v)

end Feeds

end Cert.Moe
-- ==== Proof.PartsA.lean ====
/-
# The kernel's parts, from the barrier to the first transfers
-/
module

public import proofs.«01_k».proof.Proof.Values

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## What the parts' statements name -/

/-- A program on device `c` reaches `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (I : Inp F) (c : Dev nD)

/-- The exchange's records at the values it carries. -/
abbrev rec' : sProp 𝕄 := recs (sent I)
abbrev hX : sProp 𝕄 := ownsTc c a0 fullShare (I.x c)
abbrev hE : sProp 𝕄 := ownsTc c a3 fullShare (I.ew c)
abbrev hS : sProp 𝕄 := ownsTc c a4 fullShare (I.sw c)
abbrev hC : sProp 𝕄 := ownsTc c a7 fullShare (cof I c)
/-- The piece `r` after its own, held whole. -/
abbrev pc (b : Bool) (r : Fin 4) (v : V4 F) : sProp 𝕄 := accP c b (ck c r) fullShare v

theorem rem_cons {s : ℕ} (hs : s < 6) : rem s = (false, s) :: (true, s) :: rem (s + 1) := by
  unfold rem; rw [show 6 - s = (6 - (s + 1)) + 1 by omega, List.range'_succ]; rfl
theorem rem_gt (s : ℕ) : ∀ x ∈ rem (s + 1), s < x.2 ∧ x.2 < 6 := by
  intro x hx
  unfold rem at hx
  obtain ⟨t, ht, hx⟩ := List.mem_flatMap.mp hx
  have ht := List.mem_range'_1.mp ht
  simp only [List.mem_cons, List.not_mem_nil, or_false] at hx
  rcases hx with rfl | rfl <;> exact ⟨by show s < t; omega, by show t < 6; omega⟩
theorem rem_lt (s : ℕ) : ∀ x ∈ rem s, x.2 < 6 := by
  intro x hx
  unfold rem at hx
  obtain ⟨t, ht, hx⟩ := List.mem_flatMap.mp hx
  have ht := List.mem_range'_1.mp ht
  simp only [List.mem_cons, List.not_mem_nil, or_false] at hx
  rcases hx with rfl | rfl <;> (show t < 6; omega)

theorem sent_acc (b : Bool) {s : ℕ} (hs : s < 3) :
    sent I b (s + 1) c = k0_pay20 (part I b c (ck c (sr b (s + 1)))) (to3 (sent I b s (up (!b) c))) := by
  show (if s < 3 then _ else _) = _; rw [if_pos hs]
theorem sent_pass (b : Bool) {s : ℕ} (hs : 3 ≤ s) : sent I b (s + 1) c = sent I b s (up (!b) c) := by
  show (if s < 3 then _ else _) = _; rw [if_neg (by omega)]

/-- A printed slice of the accumulator is the piece at its closed-form place. -/
theorem acc_at (b : Bool) (k : Fin 4) {o : Fin 4 → ℕ} {h} (ho : o = ![cond b 1 0, k.val, 0, 0]) :
    (a6.slice (Rect.unit (s := S2x4x256x512) o S1x1x256x512.size h) (fun _ => rfl)).squeeze S256x512 squeezes_S1x1x256x512_S256x512 = accQ b k := by
  subst ho; rfl

variable {h0 : a0.IsWhole} {h1 : a1.IsWhole} {h2 : a2.IsWhole} {h3 : a3.IsWhole} {h4 : a4.IsWhole} {h5 : a5.IsWhole} {h6 : a6.IsWhole}
  {h7 : a7.IsWhole} {h8 : a8.IsWhole} {h9 : a9.IsWhole}

/-! ## The barrier -/

theorem part1_wp {Kt} : iprop(rec' I ∗ (∃ W, owes (c : Thread nD τ) (O₀ c) W) ∗ cred (tallyAt (barCell c) 0 2) ∗ atPos ER (barCell c) 0 ∅ 0
      ∗ dutyTok ER (barCell (up true c)) 0 false ∗ dutyTok ER (barCell (up false c)) 0 true
      ∗ barPay false (up true c) ∗ barPay true (up false c) ∗ hX I c)
    ⊢ iprop((∀ v5 v7 v10 v13 v16 v19, ((permit false 0 c ∗ permit false 1 c) ∗ (permit true 0 c ∗ permit true 1 c) ∗ atPos ER (barCell c) 1 ∅ 0 ∗ ow c (rem 0) ∗ hX I c)
        -∗ Kt ⟨c, myWord c, v5, v7, v10, v13, v16, v19, k0_pay2 (I.x c)⟩)
      -∗ runs c (k0_part1 (F := F) a0 h0 a1 h1 a2 h2 a3 h3 a4 h4 a5 h5 a6 h6 a7 h7 a8 h8 a9 h9 cc0_scratch4 cc0_scratch5 cc0_scratch6 cc0_scratch7) Kt) := by
  simp only [k0_part1_eq_skeleton]; unfold k0_part1_skel runs
  simp only [semSignalWord, semWaitWord, Prog.lift, Prog.bind_op, Prog.bind_ret, Prog.pure_eq_ret, wp_deviceId]
  iintro ⟨#HR, ⟨%W, Ho⟩, Hc, Hat, Ht1, Ht2, Hb1, Hb2, Hx⟩ Hk
  ihave Hi := (recs_cell (sent I) (c, none)) $$ HR
  ihave Hi1 := (recs_cell (sent I) (up true c, none)) $$ HR
  ihave Hi2 := (recs_cell (sent I) (up false c, none)) $$ HR
  icases Hi with ⟨%κ, #Hi⟩
  icases Hi1 with ⟨%κ₁, #Hi1⟩
  icases Hi2 with ⟨%κ₂, #Hi2⟩
  rw [show (⟨k0_dev1 c, k0_dev1_lt c⟩ : Dev nD) = up true c from Fin.ext (k0_dev1_eq c),
    show (⟨k0_dev2 c, k0_dev2_lt c⟩ : Dev nD) = up false c from Fin.ext (k0_dev2_eq c)]
  -- the signal to the device before
  iapply (Rounds.wp_signal 𝒱₀ ER (Rd (sent I)) (c : Thread nD τ) none (dst := (up true c : Thread nD τ)) (κ := κ₁)
      (d := false) (by rw [duties_bar]; exact Finset.mem_univ _) ((amount_bar (sent I) (up true c) 0 false).trans (by decide)) 0 (O₁ c) rfl)
    $$ [Ho Ht1 Hb1]
  · isplitr; · iexact Hi1
    isplitl [Ho]; · iexact Ho
    isplitl [Ht1]; · iexact Ht1
    isplitl [Hb1]; · rw [payload_bar]; iexact Hb1
    iapply (recs_reached (sent I) (up true c, none)); iexact HR
  iintro Ho
  -- the signal to the device after
  iapply (Rounds.wp_signal 𝒱₀ ER (Rd (sent I)) (c : Thread nD τ) none (dst := (up false c : Thread nD τ)) (κ := κ₂)
      (d := true) (by rw [duties_bar]; exact Finset.mem_univ _) ((amount_bar (sent I) (up false c) 0 true).trans (by decide)) 0 (debt c (rem 0)) rfl)
    $$ [Ho Ht2 Hb2]
  · isplitr; · iexact Hi2
    isplitl [Ho]; · iexact Ho
    isplitl [Ht2]; · iexact Ht2
    isplitl [Hb2]; · rw [payload_bar]; iexact Hb2
    iapply (recs_reached (sent I) (up false c, none)); iexact HR
  iintro Ho
  -- the wait for both neighbours' signals
  iapply (Rounds.wp_wait_rest_token 𝒱₀ ER (Rd (sent I)) (c : Thread nD τ) none (κ := κ)
      (wpE_semWait_eq 𝒱₀ (c : Thread nD τ) none Set.univ) (Set.mem_univ _) 0 (O := debt c (rem 0)) (W := W) (R := 0) (m := 0) (T := ∅)
      (by rw [expect_bar]; decide)) $$ [Hc Ho Hat]
  · isplitr; · iexact Hi
    isplitl [Hc]; · iexact Hc
    isplitl [Ho]; · iexact Ho
    isplitr
    · iapply (mayWait c (.reg barS) 0 (by decide) (rem 0) (fun x hx => ⟨rem_lt 0 x hx, by rw [lv_bar]; omega⟩))
      iapply (recs_lev (sent I)); iexact HR
    iexact Hat
  iintro ⟨Ho, Hat, -, Hpay⟩
  ihave Hp := (Entails.of_eq (rest_bar (sent I) c)) $$ Hpay
  icases Hp with ⟨Hp1, Hp2⟩
  iapply (ld_all c a0 (I.x c)) $$ [Hx]
  · iexact Hx
  iintro Hx
  rw [wp_ret]; imodintro
  have hw : Scalar.remsi (Scalar.divsi (Dev.word c) 1#32) 4#32 = myWord c := rfl
  simp only [hw]
  iapply Hk
  isplitl [Hp1]
  · iapply (bar_permits (sent I) c false); isplitr
    · iexact HR
    iexact Hp1
  isplitl [Hp2]
  · iapply (bar_permits (sent I) c true); isplitr
    · iexact HR
    iexact Hp2
  isplitl [Hat]; · iexact Hat
  isplitl [Ho]
  · unfold ow; iexists _; iexact Ho
  iexact Hx

/-! ## The coefficients -/

theorem part2_wp {Kt} (q : Vec F S1024x4 .f32) :
    iprop(hX I c ∗ ownsTc c a1 fullShare (I.rw c) ∗ ownsTc c a2 fullShare (I.ix c) ∗ ownsTc c a7 fullShare q)
      ⊢ iprop(((hX I c ∗ ownsTc c a1 fullShare (I.rw c) ∗ ownsTc c a2 fullShare (I.ix c) ∗ hC I c)
          -∗ Kt ⟨k0_pay4 (rows (I.x c) (ck c 0)), cofs (cof I c) (ck c 0), k0_pay5 (rows (I.x c) (ck c 0)) (cofs (cof I c) (ck c 0))⟩)
        -∗ runs c (k0_part2 (F := F) a0 h0 a1 h1 a2 h2 a3 h3 a4 h4 a5 h5 a6 h6 a7 h7 a8 h8 a9 h9 cc0_scratch4 cc0_scratch5 cc0_scratch6 cc0_scratch7 c (myWord c) (k0_pay2 (I.x c))) Kt) := by
  simp only [k0_part2_eq_skeleton]; unfold k0_part2_skel runs
  simp only [Prog.lift, Prog.bind_op, Prog.bind_ret, Prog.pure_eq_ret]
  iintro ⟨Hx, Hr, Hi, Hq⟩ Hk
  iapply (ld_all c a1 (I.rw c)) $$ [Hr]
  · iexact Hr
  iintro Hr
  iapply (ld_all c a2 (I.ix c)) $$ [Hi]
  · iexact Hi
  iintro Hi
  iapply (ld_all c a7 q) $$ [Hq]
  · iexact Hq
  iintro Hq
  iapply (st_all c a7 q (cof I c)) $$ [Hq]
  · iexact Hq
  iintro Hq
  have hk : 256 * c.val = 256 * (ck c 0).val := by revert c; decide
  iapply (ld_x c (ck c 0) ((k0_off1_eq c).trans (by rw [hk])) (I.x c)) $$ [Hx]
  · iexact Hx
  iintro Hx
  iapply (ld_q c (ck c 0) ((k0_off2_eq c).trans (by rw [hk])) (cof I c)) $$ [Hq]
  · iexact Hq
  iintro Hq
  rw [wp_ret]; imodintro
  iapply Hk
  isplitl [Hx]; · iexact Hx
  isplitl [Hr]; · iexact Hr
  isplitl [Hi]; · iexact Hi
  iexact Hq

/-- A device's own chunk through its experts. -/
theorem part3_wp {Kt} (v2 : BitVec 32) (u w : V4 F) :
    iprop(hE I c ∗ pc c false 0 u ∗ pc c true 0 w)
      ⊢ iprop(((hE I c ∗ pc c false 0 (sent I false 0 c) ∗ pc c true 0 (sent I true 0 c)) -∗ Kt ⟨⟩)
        -∗ runs c (k0_part3 (F := F) a0 h0 a1 h1 a2 h2 a3 h3 a4 h4 a5 h5 a6 h6 a7 h7 a8 h8 a9 h9 cc0_scratch4 cc0_scratch5 cc0_scratch6 cc0_scratch7 c v2
            (k0_pay4 (rows (I.x c) (ck c 0))) (cofs (cof I c) (ck c 0)) (k0_pay5 (rows (I.x c) (ck c 0)) (cofs (cof I c) (ck c 0)))) Kt) := by
  simp only [k0_part3_eq_skeleton]; unfold k0_part3_skel runs
  simp only [Prog.lift, Prog.bind_op, Prog.bind_ret, Prog.pure_eq_ret]
  iintro ⟨He, Ha, Hb⟩ Hk
  iapply (ld_e c 0 rfl (I.ew c)) $$ [He]
  · iexact He
  iintro He
  iapply (ld_e c 1 rfl (I.ew c)) $$ [He]
  · iexact He
  iintro He
  iapply (ld_e c 2 rfl (I.ew c)) $$ [He]
  · iexact He
  iintro He
  iapply (ld_e c 3 rfl (I.ew c)) $$ [He]
  · iexact He
  iintro He
  have hk : c.val = (ck c 0).val := by revert c; decide
  have e3 : k0_off3 c = ![cond false 1 0, (ck c 0).val, 0, 0] := (k0_off3_eq c).trans (by rw [← hk]; rfl)
  have e4 : k0_off4 c = ![cond true 1 0, (ck c 0).val, 0, 0] := (k0_off4_eq c).trans (by rw [← hk]; rfl)
  iapply (ld_a c false (ck c 0) e3 u) $$ [Ha]
  · iexact Ha
  iintro Ha
  iapply (st_a c false (ck c 0) e3 u (sent I false 0 c)) $$ [Ha]
  · iexact Ha
  iintro Ha
  iapply (ld_a c true (ck c 0) e4 w) $$ [Hb]
  · iexact Hb
  iintro Hb
  iapply (st_a c true (ck c 0) e4 w (sent I true 0 c)) $$ [Hb]
  · iexact Hb
  iintro Hb
  rw [wp_ret]; imodintro
  iapply Hk
  isplitl [He]; · iexact He
  isplitl [Ha]; · iexact Ha
  iexact Hb

/-- The transfers of step 0. -/
theorem part4_wp {Kt} (v5 v7 v19 : BitVec 32) :
    iprop(rec' I ∗ dirS false c 0 ∗ dirS true c 0 ∗ ow c (rem 0) ∗ permit false 0 c ∗ permit true 0 c
        ∗ pc c false 0 (sent I false 0 c) ∗ pc c true 0 (sent I true 0 c) ∗ hX I c ∗ hC I c ∗ hE I c)
      ⊢ iprop(((dirW false c 0 ∗ dirW true c 0 ∗ ow c (rem 1) ∗ hX I c ∗ hC I c ∗ hE I c)
          -∗ Kt ⟨k0_pay9 (rows (I.x c) (ck c 3)), cofs (cof I c) (ck c 3), k0_pay10 (rows (I.x c) (ck c 3)) (cofs (cof I c) (ck c 3)),
              k0_pay11 (expert (I.ew c) 0), constant S256x1024 .f32 0x00000000#32⟩)
        -∗ runs c (k0_part4 (F := F) a0 h0 a1 h1 a2 h2 a3 h3 a4 h4 a5 h5 a6 h6 a7 h7 a8 h8 a9 h9 cc0_scratch4 cc0_scratch5 cc0_scratch6 cc0_scratch7 c v5 v7 v19) Kt) := by
  simp only [k0_part4_eq_skeleton]; unfold k0_part4_skel runs
  simp only [Prog.lift, Prog.bind_op, Prog.bind_ret, Prog.pure_eq_ret]
  iintro ⟨#HR, Hd, Hd', Ho, Hp, Hp', Ha, Ha', Hx, Hq, He⟩ Hk
  iapply (send_step (sent I) c false 0 (by decide) ((true, 0) :: rem 1) (Fin.ext (k0_dev3_eq c)) (acc_at false (ck c 0) (k0_off5_eq c 0)) rfl rfl rfl) $$ [Hd Ho Hp Ha]
  · isplitr; · iexact HR
    isplitl [Hd]; · iexact Hd
    isplitl [Ha]; · iexact Ha
    isplitl [Hp]; · iexact Hp
    isplitr; · rw [feed_none false (by decide)]; iempintro
    iexact Ho
  iintro ⟨Hd, Ho⟩
  iapply (send_step (sent I) c true 0 (by decide) (rem 1) (Fin.ext (k0_dev4_eq c)) (acc_at true (ck c 0) (k0_off6_eq c 0)) rfl rfl rfl) $$ [Hd' Ho Hp' Ha']
  · isplitr; · iexact HR
    isplitl [Hd']; · iexact Hd'
    isplitl [Ha']; · iexact Ha'
    isplitl [Hp']; · iexact Hp'
    isplitr; · rw [feed_none true (by decide)]; iempintro
    iexact Ho
  iintro ⟨Hd', Ho⟩
  iapply (ld_x c (ck c 3) (k0_off7_eq c 3) (I.x c)) $$ [Hx]
  · iexact Hx
  iintro Hx
  iapply (ld_q c (ck c 3) ((k0_off8_eq c 2).trans rfl) (cof I c)) $$ [Hq]
  · iexact Hq
  iintro Hq
  iapply (ld_e c 0 rfl (I.ew c)) $$ [He]
  · iexact He
  iintro He
  rw [wp_ret]; imodintro
  iapply Hk
  isplitl [Hd]; · iexact Hd
  isplitl [Hd']; · iexact Hd'
  isplitl [Ho]; · iexact Ho
  isplitl [Hx]; · iexact Hx
  isplitl [Hq]; · iexact Hq
  iexact He

end Cert.Moe
-- ==== Proof.PartsB.lean ====
/-
# The parts up to the second step: the device's chunks through its experts, and the first sums
-/
module

public import proofs.«01_k».proof.Proof.PartsA

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Inp F) (c : Dev nD)

variable {h0 : a0.IsWhole} {h1 : a1.IsWhole} {h2 : a2.IsWhole} {h3 : a3.IsWhole} {h4 : a4.IsWhole} {h5 : a5.IsWhole} {h6 : a6.IsWhole}
  {h7 : a7.IsWhole} {h8 : a8.IsWhole} {h9 : a9.IsWhole}

/-- The chunk before the device's own through its experts. -/
theorem part5_wp {Kt} (v13 v19 : BitVec 32) (u w : V4 F) :
    iprop(hX I c ∗ hE I c ∗ pc c false 3 u ∗ pc c true 3 w)
      ⊢ iprop(((hX I c ∗ hE I c ∗ pc c false 3 (part I false c (ck c 3)) ∗ pc c true 3 (part I true c (ck c 3))) -∗ Kt ⟨Scalar.muli v13 256#32, k0_pay15 (rows (I.x c) (ck c 1))⟩)
        -∗ runs c (k0_part5 (F := F) a0 h0 a1 h1 a2 h2 a3 h3 a4 h4 a5 h5 a6 h6 a7 h7 a8 h8 a9 h9 cc0_scratch4 cc0_scratch5 cc0_scratch6 cc0_scratch7 c v13 v19 (k0_pay9 (rows (I.x c) (ck c 3))) (cofs (cof I c) (ck c 3)) (k0_pay10 (rows (I.x c) (ck c 3)) (cofs (cof I c) (ck c 3))) (k0_pay11 (expert (I.ew c) 0)) (constant S256x1024 .f32 0x00000000#32)) Kt) := by
  simp only [k0_part5_eq_skeleton]; unfold k0_part5_skel runs
  simp only [Prog.lift, Prog.bind_op, Prog.bind_ret, Prog.pure_eq_ret]
  iintro ⟨Hx, He, Ha, Hb⟩ Hk
  iapply (ld_e c 1 rfl (I.ew c)) $$ [He]
  · iexact He
  iintro He
  iapply (ld_e c 2 rfl (I.ew c)) $$ [He]
  · iexact He
  iintro He
  iapply (ld_e c 3 rfl (I.ew c)) $$ [He]
  · iexact He
  iintro He
  iapply (ld_a c false (ck c 3) (k0_off9_eq c 3) u) $$ [Ha]
  · iexact Ha
  iintro Ha
  iapply (st_a c false (ck c 3) (k0_off9_eq c 3) u (part I false c (ck c 3))) $$ [Ha]
  · iexact Ha
  iintro Ha
  iapply (ld_a c true (ck c 3) (k0_off10_eq c 3) w) $$ [Hb]
  · iexact Hb
  iintro Hb
  iapply (st_a c true (ck c 3) (k0_off10_eq c 3) w (part I true c (ck c 3))) $$ [Hb]
  · iexact Hb
  iintro Hb
  iapply (ld_x c (ck c 1) (k0_off7_eq c 1) (I.x c)) $$ [Hx]
  · iexact Hx
  iintro Hx
  rw [wp_ret]; imodintro
  iapply Hk
  isplitl [Hx]; · iexact Hx
  isplitl [He]; · iexact He
  isplitl [Ha]; · iexact Ha
  iexact Hb

/-- The chunk after its own, the first half. -/
theorem part6_wp {Kt} (v13 v171 : BitVec 32) (u : V4 F) :
    iprop(hC I c ∗ hE I c ∗ pc c false 1 u)
      ⊢ iprop(((hC I c ∗ hE I c ∗ pc c false 1 (part I false c (ck c 1))) -∗ Kt (k0_pay18 (k0_pay15 (rows (I.x c) (ck c 1))) (cofs (cof I c) (ck c 1)) (expert (I.ew c) 0) (expert (I.ew c) 1) (expert (I.ew c) 2) (expert (I.ew c) 3)))
        -∗ runs c (k0_part6 (F := F) a0 h0 a1 h1 a2 h2 a3 h3 a4 h4 a5 h5 a6 h6 a7 h7 a8 h8 a9 h9 cc0_scratch4 cc0_scratch5 cc0_scratch6 cc0_scratch7 c v13 v171 (k0_pay15 (rows (I.x c) (ck c 1)))) Kt) := by
  simp only [k0_part6_eq_skeleton]; unfold k0_part6_skel runs
  simp only [Prog.lift, Prog.bind_op, Prog.bind_ret, Prog.pure_eq_ret]
  iintro ⟨Hq, He, Ha⟩ Hk
  iapply (ld_q c (ck c 1) ((k0_off8_eq c 0).trans rfl) (cof I c)) $$ [Hq]
  · iexact Hq
  iintro Hq
  iapply (ld_e c 0 rfl (I.ew c)) $$ [He]
  · iexact He
  iintro He
  iapply (ld_e c 1 rfl (I.ew c)) $$ [He]
  · iexact He
  iintro He
  iapply (ld_e c 2 rfl (I.ew c)) $$ [He]
  · iexact He
  iintro He
  iapply (ld_e c 3 rfl (I.ew c)) $$ [He]
  · iexact He
  iintro He
  iapply (ld_a c false (ck c 1) (k0_off9_eq c 1) u) $$ [Ha]
  · iexact Ha
  iintro Ha
  iapply (st_a c false (ck c 1) (k0_off9_eq c 1) u (part I false c (ck c 1))) $$ [Ha]
  · iexact Ha
  iintro Ha
  rw [wp_ret]; imodintro
  iapply Hk
  isplitl [Hq]; · iexact Hq
  isplitl [He]; · iexact He
  iexact Ha

/-- The second half, and the first waits of step 0. -/
theorem part7_wp {Kt} (v7 : BitVec 32) (w : V4 F) :
    iprop(rec' I ∗ dirW false c 0 ∗ dirW true c 0 ∗ ow c (rem 1) ∗ pc c true 1 w)
      ⊢ iprop(((dirS false c 1 ∗ dirV true c 0 ∗ ow c (rem 1) ∗ pc c true 1 (part I true c (ck c 1)) ∗ pc c false 0 (sent I false 0 c) ∗ bufP c false 0 (to3 (sent I false 0 (up true c))) ∗ pc c true 0 (sent I true 0 c)) -∗ Kt ⟨⟩)
        -∗ runs c (k0_part7 (F := F) a0 h0 a1 h1 a2 h2 a3 h3 a4 h4 a5 h5 a6 h6 a7 h7 a8 h8 a9 h9 cc0_scratch4 cc0_scratch5 cc0_scratch6 cc0_scratch7 c v7 (k0_pay18 (k0_pay15 (rows (I.x c) (ck c 1))) (cofs (cof I c) (ck c 1)) (expert (I.ew c) 0) (expert (I.ew c) 1) (expert (I.ew c) 2) (expert (I.ew c) 3))) Kt) := by
  simp only [k0_part7_eq_skeleton]; unfold k0_part7_skel runs
  simp only [Prog.lift, Prog.bind_op, Prog.bind_ret, Prog.pure_eq_ret]
  iintro ⟨#HR, Hd, Hd', Ho, Hb⟩ Hk
  iapply (ld_a c true (ck c 1) (k0_off10_eq c 1) w) $$ [Hb]
  · iexact Hb
  iintro Hb
  iapply (st_a c true (ck c 1) (k0_off10_eq c 1) w (part I true c (ck c 1))) $$ [Hb]
  · iexact Hb
  iintro Hb
  iapply (wait_send (sent I) c false 0 (by decide) (rem 1) (fun x hx => (rem_gt 0 x hx).2) rfl ?_) $$ [Hd Ho]
  · rfl
  · isplitr; · iexact HR
    isplitl [Hd]; · iexact Hd
    iexact Ho
  iintro ⟨Hd, Ho, Ha⟩
  iapply (wait_recv (sent I) c false 0 (by decide) (rem 1) (rem_gt 0) rfl ?_) $$ [Hd Ho]
  · rfl
  · isplitr; · iexact HR
    isplitl [Hd]; · iexact Hd
    iexact Ho
  iintro ⟨Hd, Ho, Hl⟩
  ihave Hl := (Entails.of_eq (recv_buf (sent I) c false (by decide))) $$ Hl
  icases Hl with ⟨Hl, -⟩
  iapply (wait_send (sent I) c true 0 (by decide) (rem 1) (fun x hx => (rem_gt 0 x hx).2) rfl ?_) $$ [Hd' Ho]
  · rfl
  · isplitr; · iexact HR
    isplitl [Hd']; · iexact Hd'
    iexact Ho
  iintro ⟨Hd', Ho, Ha'⟩
  rw [wp_ret]; imodintro
  iapply Hk
  isplitl [Hd]; · iexact Hd
  isplitl [Hd']; · iexact Hd'
  isplitl [Ho]; · iexact Ho
  isplitl [Hb]; · iexact Hb
  isplitl [Ha]; · iexact Ha
  isplitl [Hl]; · iexact Hl
  iexact Ha'

/-- The last wait of step 0; what landed is added. -/
theorem part8_wp {Kt} (v5 v13 v19 : BitVec 32) :
    iprop(rec' I ∗ dirV true c 0 ∗ ow c (rem 1) ∗ pc c false 3 (part I false c (ck c 3)) ∗ bufP c false 0 (to3 (sent I false 0 (up true c))) ∗ pc c true 1 (part I true c (ck c 1)))
      ⊢ iprop(((dirS true c 1 ∗ ow c (rem 1) ∗ pc c false 3 (sent I false 1 c) ∗ bufP c false 0 (to3 (sent I false 0 (up true c))) ∗ pc c true 1 (part I true c (ck c 1)) ∗ bufP c true 0 (to3 (sent I true 0 (up false c)))) -∗ Kt (k0_pay21 (part I true c (ck c 1)) (to3 (sent I true 0 (up false c)))))
        -∗ runs c (k0_part8 (F := F) a0 h0 a1 h1 a2 h2 a3 h3 a4 h4 a5 h5 a6 h6 a7 h7 a8 h8 a9 h9 cc0_scratch4 cc0_scratch5 cc0_scratch6 cc0_scratch7 c v5 v13 v19) Kt) := by
  simp only [k0_part8_eq_skeleton]; unfold k0_part8_skel runs
  simp only [Prog.lift, Prog.bind_op, Prog.bind_ret, Prog.pure_eq_ret]
  iintro ⟨#HR, Hd', Ho, Ha, Hl, Hb⟩ Hk
  iapply (wait_recv (sent I) c true 0 (by decide) (rem 1) (rem_gt 0) rfl ?_) $$ [Hd' Ho]
  · rfl
  · isplitr; · iexact HR
    isplitl [Hd']; · iexact Hd'
    iexact Ho
  iintro ⟨Hd', Ho, Hl'⟩
  ihave Hl' := (Entails.of_eq (recv_buf (sent I) c true (by decide))) $$ Hl'
  icases Hl' with ⟨Hl', -⟩
  iapply (ld_a c false (ck c 3) (k0_off9_eq c 3) (part I false c (ck c 3))) $$ [Ha]
  · iexact Ha
  iintro Ha
  iapply (ld_b c false 0 rfl (to3 (sent I false 0 (up true c))) rfl) $$ [Hl]
  · iexact Hl
  iintro Hl
  iapply (ld_a c false (ck c 3) (k0_off9_eq c 3) (part I false c (ck c 3))) $$ [Ha]
  · iexact Ha
  iintro Ha
  iapply (st_a c false (ck c 3) (k0_off9_eq c 3) (part I false c (ck c 3)) (sent I false 1 c)) $$ [Ha]
  · iexact Ha
  iintro Ha
  iapply (ld_a c true (ck c 1) (k0_off10_eq c 1) (part I true c (ck c 1))) $$ [Hb]
  · iexact Hb
  iintro Hb
  iapply (ld_b c true 0 rfl (to3 (sent I true 0 (up false c))) rfl) $$ [Hl']
  · iexact Hl'
  iintro Hl'
  iapply (ld_a c true (ck c 1) (k0_off10_eq c 1) (part I true c (ck c 1))) $$ [Hb]
  · iexact Hb
  iintro Hb
  rw [wp_ret]; imodintro
  iapply Hk
  isplitl [Hd']; · iexact Hd'
  isplitl [Ho]; · iexact Ho
  isplitl [Ha]; · iexact Ha
  isplitl [Hl]; · iexact Hl
  isplitl [Hb]; · iexact Hb
  iexact Hl'

/-- The transfers of step 1, each handing the other direction its first landing slot. -/
theorem part9_wp {Kt} (v5 v7 v16 : BitVec 32) :
    iprop(rec' I ∗ dirS false c 1 ∗ dirS true c 1 ∗ ow c (rem 1) ∗ permit false 1 c ∗ permit true 1 c ∗ pc c false 3 (sent I false 1 c) ∗ pc c true 1 (part I true c (ck c 1)) ∗ bufP c false 0 (to3 (sent I false 0 (up true c))) ∗ bufP c true 0 (to3 (sent I true 0 (up false c))) ∗ hX I c ∗ hC I c ∗ hE I c)
      ⊢ iprop(((dirW false c 1 ∗ dirW true c 1 ∗ ow c (rem 2) ∗ hX I c ∗ hC I c ∗ hE I c) -∗ Kt ⟨k0_pay23 (rows (I.x c) (ck c 2)), (cofs (cof I c) (ck c 2)), k0_pay24 (rows (I.x c) (ck c 2)) (cofs (cof I c) (ck c 2)), (expert (I.ew c) 0)⟩)
        -∗ runs c (k0_part9 (F := F) a0 h0 a1 h1 a2 h2 a3 h3 a4 h4 a5 h5 a6 h6 a7 h7 a8 h8 a9 h9 cc0_scratch4 cc0_scratch5 cc0_scratch6 cc0_scratch7 c v5 v7 v16 (k0_pay21 (part I true c (ck c 1)) (to3 (sent I true 0 (up false c))))) Kt) := by
  simp only [k0_part9_eq_skeleton]; unfold k0_part9_skel runs
  simp only [Prog.lift, Prog.bind_op, Prog.bind_ret, Prog.pure_eq_ret]
  iintro ⟨#HR, Hd, Hd', Ho, Hp, Hp', Ha, Hb, Hl, Hl', Hx, Hq, He⟩ Hk
  iapply (st_a c true (ck c 1) (k0_off10_eq c 1) (part I true c (ck c 1)) (sent I true 1 c)) $$ [Hb]
  · iexact Hb
  iintro Hb
  ihave Hd := (dirS_reached false c 1) $$ Hd
  icases Hd with ⟨Hd, #Hr⟩
  ihave Hd' := (dirS_reached true c 1) $$ Hd'
  icases Hd' with ⟨Hd', #Hr'⟩
  iapply (send_step (sent I) c false 1 (by decide) ((true, 1) :: rem 2) (Fin.ext (k0_dev5_eq c)) (acc_at false (ck c 3) (k0_off5_eq c 3)) rfl rfl rfl) $$ [Hd Ho Hp Ha Hl']
  · isplitr; · iexact HR
    isplitl [Hd]; · iexact Hd
    isplitl [Ha]; · iexact Ha
    isplitl [Hp]; · iexact Hp
    isplitl [Hl']
    · iapply (feed_one c false (to3 (sent I true 0 (up false c)))); isplitl [Hl']; · iexact Hl'
      iexact Hr'
    iexact Ho
  iintro ⟨Hd, Ho⟩
  iapply (send_step (sent I) c true 1 (by decide) (rem 2) (Fin.ext (k0_dev6_eq c)) (acc_at true (ck c 1) (k0_off6_eq c 1)) rfl rfl rfl) $$ [Hd' Ho Hp' Hb Hl]
  · isplitr; · iexact HR
    isplitl [Hd']; · iexact Hd'
    isplitl [Hb]; · iexact Hb
    isplitl [Hp']; · iexact Hp'
    isplitl [Hl]
    · iapply (feed_one c true (to3 (sent I false 0 (up true c)))); isplitl [Hl]; · iexact Hl
      iexact Hr
    iexact Ho
  iintro ⟨Hd', Ho⟩
  iapply (ld_x c (ck c 2) (k0_off7_eq c 2) (I.x c)) $$ [Hx]
  · iexact Hx
  iintro Hx
  iapply (ld_q c (ck c 2) ((k0_off8_eq c 1).trans rfl) (cof I c)) $$ [Hq]
  · iexact Hq
  iintro Hq
  iapply (ld_e c 0 rfl (I.ew c)) $$ [He]
  · iexact He
  iintro He
  rw [wp_ret]; imodintro
  iapply Hk
  isplitl [Hd]; · iexact Hd
  isplitl [Hd']; · iexact Hd'
  isplitl [Ho]; · iexact Ho
  isplitl [Hx]; · iexact Hx
  isplitl [Hq]; · iexact Hq
  iexact He

/-- The chunk across the ring through the experts. -/
theorem part10_wp {Kt} (v16 : BitVec 32) (u w : V4 F) :
    iprop(hE I c ∗ pc c false 2 u ∗ pc c true 2 w)
      ⊢ iprop(((hE I c ∗ pc c false 2 (part I false c (ck c 2)) ∗ pc c true 2 (part I true c (ck c 2))) -∗ Kt ⟨⟩)
        -∗ runs c (k0_part10 (F := F) a0 h0 a1 h1 a2 h2 a3 h3 a4 h4 a5 h5 a6 h6 a7 h7 a8 h8 a9 h9 cc0_scratch4 cc0_scratch5 cc0_scratch6 cc0_scratch7 c v16 (k0_pay23 (rows (I.x c) (ck c 2))) (cofs (cof I c) (ck c 2)) (k0_pay24 (rows (I.x c) (ck c 2)) (cofs (cof I c) (ck c 2))) (expert (I.ew c) 0)) Kt) := by
  simp only [k0_part10_eq_skeleton]; unfold k0_part10_skel runs
  simp only [Prog.lift, Prog.bind_op, Prog.bind_ret, Prog.pure_eq_ret]
  iintro ⟨He, Ha, Hb⟩ Hk
  iapply (ld_e c 1 rfl (I.ew c)) $$ [He]
  · iexact He
  iintro He
  iapply (ld_e c 2 rfl (I.ew c)) $$ [He]
  · iexact He
  iintro He
  iapply (ld_e c 3 rfl (I.ew c)) $$ [He]
  · iexact He
  iintro He
  iapply (ld_a c false (ck c 2) (k0_off9_eq c 2) u) $$ [Ha]
  · iexact Ha
  iintro Ha
  iapply (st_a c false (ck c 2) (k0_off9_eq c 2) u (part I false c (ck c 2))) $$ [Ha]
  · iexact Ha
  iintro Ha
  iapply (ld_a c true (ck c 2) (k0_off10_eq c 2) w) $$ [Hb]
  · iexact Hb
  iintro Hb
  iapply (st_a c true (ck c 2) (k0_off10_eq c 2) w (part I true c (ck c 2))) $$ [Hb]
  · iexact Hb
  iintro Hb
  rw [wp_ret]; imodintro
  iapply Hk
  isplitl [He]; · iexact He
  isplitl [Ha]; · iexact Ha
  iexact Hb

/-- The first waits of step 1. -/
theorem part11_wp {Kt} (v5 v7 : BitVec 32) :
    iprop(rec' I ∗ dirW false c 1 ∗ dirW true c 1 ∗ ow c (rem 2))
      ⊢ iprop(((dirS false c 2 ∗ dirV true c 1 ∗ ow c (rem 2) ∗ pc c false 3 (sent I false 1 c) ∗ bufP c false 1 (to3 (sent I false 1 (up true c))) ∗ permit true 2 c ∗ pc c true 1 (sent I true 1 c)) -∗ Kt ⟨⟩)
        -∗ runs c (k0_part11 (F := F) a0 h0 a1 h1 a2 h2 a3 h3 a4 h4 a5 h5 a6 h6 a7 h7 a8 h8 a9 h9 cc0_scratch4 cc0_scratch5 cc0_scratch6 cc0_scratch7 c v5 v7) Kt) := by
  simp only [k0_part11_eq_skeleton]; unfold k0_part11_skel runs
  simp only [Prog.lift, Prog.bind_op, Prog.bind_ret, Prog.pure_eq_ret]
  iintro ⟨#HR, Hd, Hd', Ho⟩ Hk
  iapply (wait_send (sent I) c false 1 (by decide) (rem 2) (fun x hx => (rem_gt 1 x hx).2) rfl ?_) $$ [Hd Ho]
  · rfl
  · isplitr; · iexact HR
    isplitl [Hd]; · iexact Hd
    iexact Ho
  iintro ⟨Hd, Ho, Ha⟩
  iapply (wait_recv (sent I) c false 1 (by decide) (rem 2) (rem_gt 1) rfl ?_) $$ [Hd Ho]
  · rfl
  · isplitr; · iexact HR
    isplitl [Hd]; · iexact Hd
    iexact Ho
  iintro ⟨Hd, Ho, Hl⟩
  ihave Hl := (Entails.of_eq (recv_buf (sent I) c false (by decide))) $$ Hl
  icases Hl with ⟨Hl, Hp'⟩
  ihave Hp' := (Entails.of_eq (feed_some false (by decide) c)) $$ Hp'
  iapply (wait_send (sent I) c true 1 (by decide) (rem 2) (fun x hx => (rem_gt 1 x hx).2) rfl ?_) $$ [Hd' Ho]
  · rfl
  · isplitr; · iexact HR
    isplitl [Hd']; · iexact Hd'
    iexact Ho
  iintro ⟨Hd', Ho, Hb⟩
  rw [wp_ret]; imodintro
  iapply Hk
  isplitl [Hd]; · iexact Hd
  isplitl [Hd']; · iexact Hd'
  isplitl [Ho]; · iexact Ho
  isplitl [Ha]; · iexact Ha
  isplitl [Hl]; · iexact Hl
  isplitl [Hp']; · iexact Hp'
  iexact Hb

/-- The last wait of step 1; what landed is added. -/
theorem part12_wp {Kt} (v7 v16 : BitVec 32) :
    iprop(rec' I ∗ dirV true c 1 ∗ ow c (rem 2) ∗ pc c false 2 (part I false c (ck c 2)) ∗ pc c true 2 (part I true c (ck c 2)) ∗ bufP c false 1 (to3 (sent I false 1 (up true c))))
      ⊢ iprop(((dirS true c 2 ∗ ow c (rem 2) ∗ pc c false 2 (sent I false 2 c) ∗ pc c true 2 (sent I true 2 c) ∗ bufP c false 1 (to3 (sent I false 1 (up true c))) ∗ bufP c true 1 (to3 (sent I true 1 (up false c))) ∗ permit false 2 c) -∗ Kt ⟨⟩)
        -∗ runs c (k0_part12 (F := F) a0 h0 a1 h1 a2 h2 a3 h3 a4 h4 a5 h5 a6 h6 a7 h7 a8 h8 a9 h9 cc0_scratch4 cc0_scratch5 cc0_scratch6 cc0_scratch7 c v7 v16) Kt) := by
  simp only [k0_part12_eq_skeleton]; unfold k0_part12_skel runs
  simp only [Prog.lift, Prog.bind_op, Prog.bind_ret, Prog.pure_eq_ret]
  iintro ⟨#HR, Hd', Ho, Ha, Hb, Hl⟩ Hk
  iapply (wait_recv (sent I) c true 1 (by decide) (rem 2) (rem_gt 1) rfl ?_) $$ [Hd' Ho]
  · rfl
  · isplitr; · iexact HR
    isplitl [Hd']; · iexact Hd'
    iexact Ho
  iintro ⟨Hd', Ho, Hl'⟩
  ihave Hl' := (Entails.of_eq (recv_buf (sent I) c true (by decide))) $$ Hl'
  icases Hl' with ⟨Hl', Hp⟩
  ihave Hp := (Entails.of_eq (feed_some true (by decide) c)) $$ Hp
  iapply (ld_a c false (ck c 2) (k0_off9_eq c 2) (part I false c (ck c 2))) $$ [Ha]
  · iexact Ha
  iintro Ha
  iapply (ld_b c false 1 rfl (to3 (sent I false 1 (up true c))) rfl) $$ [Hl]
  · iexact Hl
  iintro Hl
  iapply (ld_a c false (ck c 2) (k0_off9_eq c 2) (part I false c (ck c 2))) $$ [Ha]
  · iexact Ha
  iintro Ha
  iapply (st_a c false (ck c 2) (k0_off9_eq c 2) (part I false c (ck c 2)) (sent I false 2 c)) $$ [Ha]
  · iexact Ha
  iintro Ha
  iapply (ld_a c true (ck c 2) (k0_off10_eq c 2) (part I true c (ck c 2))) $$ [Hb]
  · iexact Hb
  iintro Hb
  iapply (ld_b c true 1 rfl (to3 (sent I true 1 (up false c))) rfl) $$ [Hl']
  · iexact Hl'
  iintro Hl'
  iapply (ld_a c true (ck c 2) (k0_off10_eq c 2) (part I true c (ck c 2))) $$ [Hb]
  · iexact Hb
  iintro Hb
  iapply (st_a c true (ck c 2) (k0_off10_eq c 2) (part I true c (ck c 2)) (sent I true 2 c)) $$ [Hb]
  · iexact Hb
  iintro Hb
  rw [wp_ret]; imodintro
  iapply Hk
  isplitl [Hd']; · iexact Hd'
  isplitl [Ho]; · iexact Ho
  isplitl [Ha]; · iexact Ha
  isplitl [Hb]; · iexact Hb
  isplitl [Hl]; · iexact Hl
  isplitl [Hl']; · iexact Hl'
  iexact Hp

end Cert.Moe
-- ==== Proof.PartsC.lean ====
/-
# The middle parts: the last sums and the shared expert
-/
module

public import proofs.«01_k».proof.Proof.PartsA

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Inp F) (c : Dev nD)

variable {h0 : a0.IsWhole} {h1 : a1.IsWhole} {h2 : a2.IsWhole} {h3 : a3.IsWhole} {h4 : a4.IsWhole} {h5 : a5.IsWhole} {h6 : a6.IsWhole}
  {h7 : a7.IsWhole} {h8 : a8.IsWhole} {h9 : a9.IsWhole}

/-- The transfers of step 2, each handing the other direction a chunk; the shared expert's first two chunks. -/
theorem part13_wp {Kt} (v5 v10 v13 : BitVec 32) :
    iprop(rec' I ∗ dirS false c 2 ∗ dirS true c 2 ∗ ow c (rem 2) ∗ permit false 2 c ∗ permit true 2 c ∗ pc c false 2 (sent I false 2 c) ∗ pc c true 2 (sent I true 2 c) ∗ pc c true 0 (sent I true 0 c) ∗ pc c false 0 (sent I false 0 c) ∗ hX I c ∗ hS I c)
      ⊢ iprop(((dirW false c 2 ∗ dirW true c 2 ∗ ow c (rem 3) ∗ hX I c ∗ hS I c) -∗ Kt ⟨shared I c (ck c 0), shared I c (ck c 1)⟩)
        -∗ runs c (k0_part13 (F := F) a0 h0 a1 h1 a2 h2 a3 h3 a4 h4 a5 h5 a6 h6 a7 h7 a8 h8 a9 h9 cc0_scratch4 cc0_scratch5 cc0_scratch6 cc0_scratch7 c v5 v10 v13) Kt) := by
  simp only [k0_part13_eq_skeleton]; unfold k0_part13_skel runs
  simp only [Prog.lift, Prog.bind_op, Prog.bind_ret, Prog.pure_eq_ret]
  iintro ⟨#HR, Hd, Hd', Ho, Hp, Hp', Ha, Hb, Hf, Hg, Hx, Hs⟩ Hk
  ihave Hd := (dirS_reached false c 2) $$ Hd
  icases Hd with ⟨Hd, #Hr⟩
  ihave Hd' := (dirS_reached true c 2) $$ Hd'
  icases Hd' with ⟨Hd', #Hr'⟩
  iapply (send_step (sent I) c false 2 (by decide) ((true, 2) :: rem 3) (Fin.ext (k0_dev7_eq c)) (acc_at false (ck c 2) (k0_off5_eq c 2)) rfl rfl rfl) $$ [Hd Ho Hp Ha Hf]
  · isplitr; · iexact HR
    isplitl [Hd]; · iexact Hd
    isplitl [Ha]; · iexact Ha
    isplitl [Hp]; · iexact Hp
    isplitl [Hf]
    · iapply (feed_acc c false (s := 2) (by decide) (sent I true 0 c)); isplitl [Hf]; · iexact Hf
      iexact Hr'
    iexact Ho
  iintro ⟨Hd, Ho⟩
  iapply (send_step (sent I) c true 2 (by decide) (rem 3) (Fin.ext (k0_dev8_eq c)) (acc_at true (ck c 2) (k0_off6_eq c 2)) rfl rfl rfl) $$ [Hd' Ho Hp' Hb Hg]
  · isplitr; · iexact HR
    isplitl [Hd']; · iexact Hd'
    isplitl [Hb]; · iexact Hb
    isplitl [Hp']; · iexact Hp'
    isplitl [Hg]
    · iapply (feed_acc c true (s := 2) (by decide) (sent I false 0 c)); isplitl [Hg]; · iexact Hg
      iexact Hr
    iexact Ho
  iintro ⟨Hd', Ho⟩
  iapply (ld_x c (ck c 0) (k0_off7_eq c 0) (I.x c)) $$ [Hx]
  · iexact Hx
  iintro Hx
  iapply (ld_all c a4 (I.sw c)) $$ [Hs]
  · iexact Hs
  iintro Hs
  iapply (ld_x c (ck c 1) (k0_off7_eq c 1) (I.x c)) $$ [Hx]
  · iexact Hx
  iintro Hx
  iapply (ld_all c a4 (I.sw c)) $$ [Hs]
  · iexact Hs
  iintro Hs
  rw [show k0_pay31 (rows (I.x c) (ck c 1)) (I.sw c) = shared I c (ck c 1) from pay_sh1 _ _]
  rw [show k0_pay30 (rows (I.x c) (ck c 0)) (I.sw c) = shared I c (ck c 0) from rfl]
  rw [wp_ret]; imodintro
  iapply Hk
  isplitl [Hd]; · iexact Hd
  isplitl [Hd']; · iexact Hd'
  isplitl [Ho]; · iexact Ho
  isplitl [Hx]; · iexact Hx
  iexact Hs

/-- The first waits of step 2. -/
theorem part14_wp {Kt} (v5 v7 : BitVec 32) :
    iprop(rec' I ∗ dirW false c 2 ∗ dirW true c 2 ∗ ow c (rem 3))
      ⊢ iprop(((dirS false c 3 ∗ dirV true c 2 ∗ ow c (rem 3) ∗ pc c false 2 (sent I false 2 c) ∗ bufP c false 2 (to3 (sent I false 2 (up true c))) ∗ permit true 3 c ∗ pc c true 2 (sent I true 2 c)) -∗ Kt ⟨⟩)
        -∗ runs c (k0_part14 (F := F) a0 h0 a1 h1 a2 h2 a3 h3 a4 h4 a5 h5 a6 h6 a7 h7 a8 h8 a9 h9 cc0_scratch4 cc0_scratch5 cc0_scratch6 cc0_scratch7 c v5 v7) Kt) := by
  simp only [k0_part14_eq_skeleton]; unfold k0_part14_skel runs
  simp only [Prog.lift, Prog.bind_op, Prog.bind_ret, Prog.pure_eq_ret]
  iintro ⟨#HR, Hd, Hd', Ho⟩ Hk
  iapply (wait_send (sent I) c false 2 (by decide) (rem 3) (fun x hx => (rem_gt 2 x hx).2) rfl ?_) $$ [Hd Ho]
  · rfl
  · isplitr; · iexact HR
    isplitl [Hd]; · iexact Hd
    iexact Ho
  iintro ⟨Hd, Ho, Ha⟩
  iapply (wait_recv (sent I) c false 2 (by decide) (rem 3) (rem_gt 2) rfl ?_) $$ [Hd Ho]
  · rfl
  · isplitr; · iexact HR
    isplitl [Hd]; · iexact Hd
    iexact Ho
  iintro ⟨Hd, Ho, Hl⟩
  ihave Hl := (Entails.of_eq (recv_buf (sent I) c false (by decide))) $$ Hl
  icases Hl with ⟨Hl, Hp'⟩
  ihave Hp' := (Entails.of_eq (feed_some false (by decide) c)) $$ Hp'
  iapply (wait_send (sent I) c true 2 (by decide) (rem 3) (fun x hx => (rem_gt 2 x hx).2) rfl ?_) $$ [Hd' Ho]
  · rfl
  · isplitr; · iexact HR
    isplitl [Hd']; · iexact Hd'
    iexact Ho
  iintro ⟨Hd', Ho, Hb⟩
  rw [wp_ret]; imodintro
  iapply Hk
  isplitl [Hd]; · iexact Hd
  isplitl [Hd']; · iexact Hd'
  isplitl [Ho]; · iexact Ho
  isplitl [Ha]; · iexact Ha
  isplitl [Hl]; · iexact Hl
  isplitl [Hp']; · iexact Hp'
  iexact Hb

/-- The last wait of step 2; what landed is added: two chunks are complete. -/
theorem part15_wp {Kt} (v7 v13 v19 : BitVec 32) :
    iprop(rec' I ∗ dirV true c 2 ∗ ow c (rem 3) ∗ pc c false 1 (part I false c (ck c 1)) ∗ pc c true 3 (part I true c (ck c 3)) ∗ bufP c false 2 (to3 (sent I false 2 (up true c))))
      ⊢ iprop(((dirS true c 3 ∗ ow c (rem 3) ∗ pc c false 1 (sent I false 3 c) ∗ pc c true 3 (sent I true 3 c) ∗ bufP c false 2 (to3 (sent I false 2 (up true c))) ∗ bufP c true 2 (to3 (sent I true 2 (up false c))) ∗ permit false 3 c) -∗ Kt (Scalar.muli v7 1#32))
        -∗ runs c (k0_part15 (F := F) a0 h0 a1 h1 a2 h2 a3 h3 a4 h4 a5 h5 a6 h6 a7 h7 a8 h8 a9 h9 cc0_scratch4 cc0_scratch5 cc0_scratch6 cc0_scratch7 c v7 v13 v19) Kt) := by
  simp only [k0_part15_eq_skeleton]; unfold k0_part15_skel runs
  simp only [Prog.lift, Prog.bind_op, Prog.bind_ret, Prog.pure_eq_ret]
  iintro ⟨#HR, Hd', Ho, Ha, Hb, Hl⟩ Hk
  iapply (wait_recv (sent I) c true 2 (by decide) (rem 3) (rem_gt 2) rfl ?_) $$ [Hd' Ho]
  · rfl
  · isplitr; · iexact HR
    isplitl [Hd']; · iexact Hd'
    iexact Ho
  iintro ⟨Hd', Ho, Hl'⟩
  ihave Hl' := (Entails.of_eq (recv_buf (sent I) c true (by decide))) $$ Hl'
  icases Hl' with ⟨Hl', Hp⟩
  ihave Hp := (Entails.of_eq (feed_some true (by decide) c)) $$ Hp
  iapply (ld_a c false (ck c 1) (k0_off9_eq c 1) (part I false c (ck c 1))) $$ [Ha]
  · iexact Ha
  iintro Ha
  iapply (ld_b c false 2 rfl (to3 (sent I false 2 (up true c))) rfl) $$ [Hl]
  · iexact Hl
  iintro Hl
  iapply (ld_a c false (ck c 1) (k0_off9_eq c 1) (part I false c (ck c 1))) $$ [Ha]
  · iexact Ha
  iintro Ha
  iapply (st_a c false (ck c 1) (k0_off9_eq c 1) (part I false c (ck c 1)) (sent I false 3 c)) $$ [Ha]
  · iexact Ha
  iintro Ha
  iapply (ld_a c true (ck c 3) (k0_off10_eq c 3) (part I true c (ck c 3))) $$ [Hb]
  · iexact Hb
  iintro Hb
  iapply (ld_b c true 2 rfl (to3 (sent I true 2 (up false c))) rfl) $$ [Hl']
  · iexact Hl'
  iintro Hl'
  iapply (ld_a c true (ck c 3) (k0_off10_eq c 3) (part I true c (ck c 3))) $$ [Hb]
  · iexact Hb
  iintro Hb
  iapply (st_a c true (ck c 3) (k0_off10_eq c 3) (part I true c (ck c 3)) (sent I true 3 c)) $$ [Hb]
  · iexact Hb
  iintro Hb
  rw [wp_ret]; imodintro
  iapply Hk
  isplitl [Hd']; · iexact Hd'
  isplitl [Ho]; · iexact Ho
  isplitl [Ha]; · iexact Ha
  isplitl [Hb]; · iexact Hb
  isplitl [Hl]; · iexact Hl
  isplitl [Hl']; · iexact Hl'
  iexact Hp

/-- The transfers of step 3; the shared expert's last two chunks. -/
theorem part16_wp {Kt} (v5 v16 v19 v477 : BitVec 32) :
    iprop(rec' I ∗ dirS false c 3 ∗ dirS true c 3 ∗ ow c (rem 3) ∗ permit false 3 c ∗ permit true 3 c ∗ pc c false 1 (sent I false 3 c) ∗ pc c true 3 (sent I true 3 c) ∗ pc c true 1 (sent I true 1 c) ∗ pc c false 3 (sent I false 1 c) ∗ hX I c ∗ hS I c)
      ⊢ iprop(((dirW false c 3 ∗ dirW true c 3 ∗ ow c (rem 4) ∗ hX I c ∗ hS I c) -∗ Kt ⟨shared I c (ck c 3), shared I c (ck c 2)⟩)
        -∗ runs c (k0_part16 (F := F) a0 h0 a1 h1 a2 h2 a3 h3 a4 h4 a5 h5 a6 h6 a7 h7 a8 h8 a9 h9 cc0_scratch4 cc0_scratch5 cc0_scratch6 cc0_scratch7 c v5 v16 v19 v477) Kt) := by
  simp only [k0_part16_eq_skeleton]; unfold k0_part16_skel runs
  simp only [Prog.lift, Prog.bind_op, Prog.bind_ret, Prog.pure_eq_ret]
  iintro ⟨#HR, Hd, Hd', Ho, Hp, Hp', Ha, Hb, Hf, Hg, Hx, Hs⟩ Hk
  ihave Hd := (dirS_reached false c 3) $$ Hd
  icases Hd with ⟨Hd, #Hr⟩
  ihave Hd' := (dirS_reached true c 3) $$ Hd'
  icases Hd' with ⟨Hd', #Hr'⟩
  iapply (send_step (sent I) c false 3 (by decide) ((true, 3) :: rem 4) (Fin.ext (k0_dev9_eq c)) (acc_at false (ck c 1) (k0_off5_eq c 1)) (acc_at false (ck c 1) (k0_off5_eq c 1)) rfl rfl) $$ [Hd Ho Hp Ha Hf]
  · isplitr; · iexact HR
    isplitl [Hd]; · iexact Hd
    isplitl [Ha]; · iexact Ha
    isplitl [Hp]; · iexact Hp
    isplitl [Hf]
    · iapply (feed_acc c false (s := 3) (by decide) (sent I true 1 c)); isplitl [Hf]; · iexact Hf
      iexact Hr'
    iexact Ho
  iintro ⟨Hd, Ho⟩
  iapply (send_step (sent I) c true 3 (by decide) (rem 4) (Fin.ext (k0_dev10_eq c)) (acc_at true (ck c 3) (k0_off6_eq c 3)) (acc_at true (ck c 3) (k0_off6_eq c 3)) rfl rfl) $$ [Hd' Ho Hp' Hb Hg]
  · isplitr; · iexact HR
    isplitl [Hd']; · iexact Hd'
    isplitl [Hb]; · iexact Hb
    isplitl [Hp']; · iexact Hp'
    isplitl [Hg]
    · iapply (feed_acc c true (s := 3) (by decide) (sent I false 1 c)); isplitl [Hg]; · iexact Hg
      iexact Hr
    iexact Ho
  iintro ⟨Hd', Ho⟩
  iapply (ld_x c (ck c 3) (k0_off7_eq c 3) (I.x c)) $$ [Hx]
  · iexact Hx
  iintro Hx
  iapply (ld_all c a4 (I.sw c)) $$ [Hs]
  · iexact Hs
  iintro Hs
  iapply (ld_x c (ck c 2) (k0_off7_eq c 2) (I.x c)) $$ [Hx]
  · iexact Hx
  iintro Hx
  iapply (ld_all c a4 (I.sw c)) $$ [Hs]
  · iexact Hs
  iintro Hs
  rw [show k0_pay34 (rows (I.x c) (ck c 3)) (I.sw c) = shared I c (ck c 3) from pay_sh2 _ _]
  rw [show k0_pay35 (rows (I.x c) (ck c 2)) (I.sw c) = shared I c (ck c 2) from pay_sh3 _ _]
  rw [wp_ret]; imodintro
  iapply Hk
  isplitl [Hd]; · iexact Hd
  isplitl [Hd']; · iexact Hd'
  isplitl [Ho]; · iexact Ho
  isplitl [Hx]; · iexact Hx
  iexact Hs

/-- The first waits of step 3. -/
theorem part17_wp {Kt} (v5 v7 : BitVec 32) :
    iprop(rec' I ∗ dirW false c 3 ∗ dirW true c 3 ∗ ow c (rem 4))
      ⊢ iprop(((dirS false c 4 ∗ dirV true c 3 ∗ ow c (rem 4) ∗ pc c false 1 (sent I false 3 c) ∗ pc c false 0 (sent I false 4 c) ∗ permit true 4 c ∗ pc c true 3 (sent I true 3 c)) -∗ Kt ⟨⟩)
        -∗ runs c (k0_part17 (F := F) a0 h0 a1 h1 a2 h2 a3 h3 a4 h4 a5 h5 a6 h6 a7 h7 a8 h8 a9 h9 cc0_scratch4 cc0_scratch5 cc0_scratch6 cc0_scratch7 c v5 v7) Kt) := by
  simp only [k0_part17_eq_skeleton]; unfold k0_part17_skel runs
  simp only [Prog.lift, Prog.bind_op, Prog.bind_ret, Prog.pure_eq_ret]
  iintro ⟨#HR, Hd, Hd', Ho⟩ Hk
  iapply (wait_send (sent I) c false 3 (by decide) (rem 4) (fun x hx => (rem_gt 3 x hx).2) rfl ?_) $$ [Hd Ho]
  · rfl
  · isplitr; · iexact HR
    isplitl [Hd]; · iexact Hd
    iexact Ho
  iintro ⟨Hd, Ho, Ha⟩
  iapply (wait_recv (sent I) c false 3 (by decide) (rem 4) (rem_gt 3) rfl ?_) $$ [Hd Ho]
  · rfl
  · isplitr; · iexact HR
    isplitl [Hd]; · iexact Hd
    iexact Ho
  iintro ⟨Hd, Ho, Hl⟩
  ihave Hl := (Entails.of_eq (recv_acc (sent I) c false (by decide))) $$ Hl
  icases Hl with ⟨Hl, Hp'⟩
  ihave Hp' := (Entails.of_eq (feed_some false (by decide) c)) $$ Hp'
  ihave Hl := (show accP c false (ck c (sr false (3 + 1))) fullShare (sent I false 3 (up (!false) c)) ⊢ pc c false 0 (sent I false 4 c) from
    Entails.of_eq (congrArg (accP c false (ck c (sr false (3 + 1))) fullShare) (sent_pass I c false (s := 3) (by decide)).symm)) $$ Hl
  iapply (wait_send (sent I) c true 3 (by decide) (rem 4) (fun x hx => (rem_gt 3 x hx).2) rfl ?_) $$ [Hd' Ho]
  · rfl
  · isplitr; · iexact HR
    isplitl [Hd']; · iexact Hd'
    iexact Ho
  iintro ⟨Hd', Ho, Hb⟩
  rw [wp_ret]; imodintro
  iapply Hk
  isplitl [Hd]; · iexact Hd
  isplitl [Hd']; · iexact Hd'
  isplitl [Ho]; · iexact Ho
  isplitl [Ha]; · iexact Ha
  isplitl [Hl]; · iexact Hl
  isplitl [Hp']; · iexact Hp'
  iexact Hb

end Cert.Moe
-- ==== Proof.PartsD.lean ====
/-
# The last parts: the completed chunks go round and the output is written
-/
module

public import proofs.«01_k».proof.Proof.PartsA

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Inp F) (c : Dev nD)

variable {h0 : a0.IsWhole} {h1 : a1.IsWhole} {h2 : a2.IsWhole} {h3 : a3.IsWhole} {h4 : a4.IsWhole} {h5 : a5.IsWhole} {h6 : a6.IsWhole}
  {h7 : a7.IsWhole} {h8 : a8.IsWhole} {h9 : a9.IsWhole}

/-- The output's half chunk from the completed chunk a device holds. -/
theorem out_half (b : Bool) (r : Fin 4) : outP I b c (ck c r) = half b (shared I c (ck c r)) (sent I b (doneAt b r) c) := by
  unfold outP; rw [off_ck]

theorem out_f0 : k0_pay37 (shared I c (ck c 0)) (k0_pay36 (sent I false 4 c)) = outP I false c (ck c 0) :=
  (rfl : _ = half false (shared I c (ck c 0)) (sent I false 4 c)).trans (out_half I c false 0).symm
theorem out_t0 : k0_pay38 (shared I c (ck c 0)) (sent I true 4 c) = outP I true c (ck c 0) :=
  (rfl : _ = half true (shared I c (ck c 0)) (sent I true 4 c)).trans (out_half I c true 0).symm
theorem out_f1 : k0_pay39 (shared I c (ck c 1)) (sent I false 3 c) = outP I false c (ck c 1) :=
  (pay_out1 _ _ : _ = half false (shared I c (ck c 1)) (sent I false 3 c)).trans (out_half I c false 1).symm
theorem out_t1 : k0_pay40 (shared I c (ck c 1)) (sent I true 5 c) = outP I true c (ck c 1) :=
  (pay_out2 _ _ : _ = half true (shared I c (ck c 1)) (sent I true 5 c)).trans (out_half I c true 1).symm
theorem out_f3 : k0_pay41 (shared I c (ck c 3)) (sent I false 5 c) = outP I false c (ck c 3) :=
  (pay_out3 _ _ : _ = half false (shared I c (ck c 3)) (sent I false 5 c)).trans (out_half I c false 3).symm
theorem out_t3 : k0_pay42 (shared I c (ck c 3)) (sent I true 3 c) = outP I true c (ck c 3) :=
  (pay_out4 _ _ : _ = half true (shared I c (ck c 3)) (sent I true 3 c)).trans (out_half I c true 3).symm
theorem out_f2 : k0_pay43 (shared I c (ck c 2)) (sent I false 6 c) = outP I false c (ck c 2) :=
  (pay_out5 _ _ : _ = half false (shared I c (ck c 2)) (sent I false 6 c)).trans (out_half I c false 2).symm
theorem out_t2 : k0_pay1 (shared I c (ck c 2)) (sent I true 6 c) = outP I true c (ck c 2) :=
  (pay_out6 _ _ : _ = half true (shared I c (ck c 2)) (sent I true 6 c)).trans (out_half I c true 2).symm

/-- The last wait of step 3, and the transfers of step 4: their pieces lent by halves. -/
theorem part18_wp {Kt} (v5 v7 v10 : BitVec 32) :
    iprop(rec' I ∗ dirS false c 4 ∗ dirV true c 3 ∗ ow c (rem 4) ∗ permit true 4 c ∗ pc c false 0 (sent I false 4 c) ∗ pc c true 2 (sent I true 2 c) ∗ pc c false 2 (sent I false 2 c))
      ⊢ iprop(((dirW false c 4 ∗ dirW true c 4 ∗ ow c (rem 5) ∗ accP c false (ck c 0) fullShare.right (sent I false 4 c) ∗ accP c true (ck c 0) fullShare.right (sent I true 4 c)) -∗ Kt ⟨Scalar.muli v10 256#32, k0_pay36 (sent I false 4 c)⟩)
        -∗ runs c (k0_part18 (F := F) a0 h0 a1 h1 a2 h2 a3 h3 a4 h4 a5 h5 a6 h6 a7 h7 a8 h8 a9 h9 cc0_scratch4 cc0_scratch5 cc0_scratch6 cc0_scratch7 c v5 v7 v10) Kt) := by
  simp only [k0_part18_eq_skeleton]; unfold k0_part18_skel runs
  simp only [Prog.lift, Prog.bind_op, Prog.bind_ret, Prog.pure_eq_ret]
  iintro ⟨#HR, Hd, Hd', Ho, Hp', Ha, Hf, Hg⟩ Hk
  iapply (wait_recv (sent I) c true 3 (by decide) (rem 4) (rem_gt 3) rfl ?_) $$ [Hd' Ho]
  · rfl
  · isplitr; · iexact HR
    isplitl [Hd']; · iexact Hd'
    iexact Ho
  iintro ⟨Hd', Ho, Hb⟩
  ihave Hb := (Entails.of_eq (recv_acc (sent I) c true (by decide))) $$ Hb
  icases Hb with ⟨Hb, Hp⟩
  ihave Hp := (Entails.of_eq (feed_some true (by decide) c)) $$ Hp
  ihave Hb := (show accP c true (ck c (sr true (3 + 1))) fullShare (sent I true 3 (up (!true) c)) ⊢ pc c true 0 (sent I true 4 c) from
    Entails.of_eq (congrArg (accP c true (ck c (sr true (3 + 1))) fullShare) (sent_pass I c true (s := 3) (by decide)).symm)) $$ Hb
  ihave Hd := (dirS_reached false c 4) $$ Hd
  icases Hd with ⟨Hd, #Hr⟩
  ihave Hd' := (dirS_reached true c 4) $$ Hd'
  icases Hd' with ⟨Hd', #Hr'⟩
  ihave Ha := (accP_halves c false (ck c 0) (sent I false 4 c)).1 $$ Ha
  icases Ha with ⟨Ha, Hh⟩
  ihave Hb := (accP_halves c true (ck c 0) (sent I true 4 c)).1 $$ Hb
  icases Hb with ⟨Hb, Hh'⟩
  iapply (send_step (sent I) c false 4 (by decide) ((true, 4) :: rem 5) (Fin.ext (k0_dev11_eq c)) (acc_at false (ck c 0) (k0_off5_eq c 0)) (acc_at false (ck c 0) (k0_off5_eq c 0)) rfl rfl) $$ [Hd Ho Hp Ha Hf]
  · isplitr; · iexact HR
    isplitl [Hd]; · iexact Hd
    isplitl [Ha]; · iexact Ha
    isplitl [Hp]; · iexact Hp
    isplitl [Hf]
    · iapply (feed_acc c false (s := 4) (by decide) (sent I true 2 c)); isplitl [Hf]; · iexact Hf
      iexact Hr'
    iexact Ho
  iintro ⟨Hd, Ho⟩
  iapply (send_step (sent I) c true 4 (by decide) (rem 5) (Fin.ext (k0_dev12_eq c)) (acc_at true (ck c 0) (k0_off6_eq c 0)) (acc_at true (ck c 0) (k0_off6_eq c 0)) rfl rfl) $$ [Hd' Ho Hp' Hb Hg]
  · isplitr; · iexact HR
    isplitl [Hd']; · iexact Hd'
    isplitl [Hb]; · iexact Hb
    isplitl [Hp']; · iexact Hp'
    isplitl [Hg]
    · iapply (feed_acc c true (s := 4) (by decide) (sent I false 2 c)); isplitl [Hg]; · iexact Hg
      iexact Hr
    iexact Ho
  iintro ⟨Hd', Ho⟩
  iapply (ld_a c false (ck c 0) (k0_off9_eq c 0) (sent I false 4 c)) $$ [Hh]
  · iexact Hh
  iintro Hh
  rw [wp_ret]; imodintro
  iapply Hk
  isplitl [Hd]; · iexact Hd
  isplitl [Hd']; · iexact Hd'
  isplitl [Ho]; · iexact Ho
  isplitl [Hh]; · iexact Hh
  iexact Hh'

/-- The output's first two half chunks, and step 4's first waits. -/
theorem part19_wp {Kt} (v7 v10 v559 : BitVec 32) :
    iprop(rec' I ∗ dirW false c 4 ∗ ow c (rem 5) ∗ accP c true (ck c 0) fullShare.right (sent I true 4 c) ∗ outO c I [])
      ⊢ iprop(((dirS false c 5 ∗ ow c (rem 5) ∗ accP c true (ck c 0) fullShare.right (sent I true 4 c) ∗ outO c I [(true, ck c 0), (false, ck c 0)] ∗ accP c false (ck c 0) fullShare.left (sent I false 4 c) ∗ pc c false 3 (sent I false 5 c) ∗ permit true 5 c) -∗ Kt ⟨⟩)
        -∗ runs c (k0_part19 (F := F) a0 h0 a1 h1 a2 h2 a3 h3 a4 h4 a5 h5 a6 h6 a7 h7 a8 h8 a9 h9 cc0_scratch4 cc0_scratch5 cc0_scratch6 cc0_scratch7 c v7 v10 (shared I c (ck c 0)) v559 (k0_pay36 (sent I false 4 c))) Kt) := by
  simp only [k0_part19_eq_skeleton]; unfold k0_part19_skel runs
  simp only [Prog.lift, Prog.bind_op, Prog.bind_ret, Prog.pure_eq_ret]
  iintro ⟨#HR, Hd, Ho, Hh', Hy⟩ Hk
  iapply (ld_o c I []) $$ [Hy]
  · iexact Hy
  iintro %_ Hy
  iapply (st_o c I [] false (ck c 0) (k0_off11_eq c 0) (out_f0 I c)) $$ [Hy]
  · iexact Hy
  iintro Hy
  iapply (ld_a c true (ck c 0) (k0_off10_eq c 0) (sent I true 4 c)) $$ [Hh']
  · iexact Hh'
  iintro Hh'
  iapply (ld_o c I [(false, ck c 0)]) $$ [Hy]
  · iexact Hy
  iintro %_ Hy
  iapply (st_o c I [(false, ck c 0)] true (ck c 0) (k0_off12_eq c 0) (out_t0 I c)) $$ [Hy]
  · iexact Hy
  iintro Hy
  iapply (wait_send (sent I) c false 4 (by decide) (rem 5) (fun x hx => (rem_gt 4 x hx).2) rfl ?_) $$ [Hd Ho]
  · rfl
  · isplitr; · iexact HR
    isplitl [Hd]; · iexact Hd
    iexact Ho
  iintro ⟨Hd, Ho, Ha⟩
  iapply (wait_recv (sent I) c false 4 (by decide) (rem 5) (rem_gt 4) rfl ?_) $$ [Hd Ho]
  · rfl
  · isplitr; · iexact HR
    isplitl [Hd]; · iexact Hd
    iexact Ho
  iintro ⟨Hd, Ho, Hl⟩
  ihave Hl := (Entails.of_eq (recv_acc (sent I) c false (by decide))) $$ Hl
  icases Hl with ⟨Hl, Hp'⟩
  ihave Hp' := (Entails.of_eq (feed_some false (by decide) c)) $$ Hp'
  ihave Hl := (show accP c false (ck c (sr false (4 + 1))) fullShare (sent I false 4 (up (!false) c)) ⊢ pc c false 3 (sent I false 5 c) from
    Entails.of_eq (congrArg (accP c false (ck c (sr false (4 + 1))) fullShare) (sent_pass I c false (s := 4) (by decide)).symm)) $$ Hl
  rw [wp_ret]; imodintro
  iapply Hk
  isplitl [Hd]; · iexact Hd
  isplitl [Ho]; · iexact Ho
  isplitl [Hh']; · iexact Hh'
  isplitl [Hy]; · iexact Hy
  isplitl [Ha]; · iexact Ha
  isplitl [Hl]; · iexact Hl
  iexact Hp'

/-- Step 4's last waits, and the first transfer of step 5. -/
theorem part20_wp {Kt} (v5 v7 : BitVec 32) :
    iprop(rec' I ∗ dirS false c 5 ∗ dirW true c 4 ∗ ow c (rem 5) ∗ pc c false 3 (sent I false 5 c))
      ⊢ iprop(((dirW false c 5 ∗ dirS true c 5 ∗ ow c ((true, 5) :: rem 6) ∗ accP c false (ck c 3) fullShare.right (sent I false 5 c) ∗ accP c true (ck c 0) fullShare.left (sent I true 4 c) ∗ pc c true 1 (sent I true 5 c)) -∗ Kt ⟨⟩)
        -∗ runs c (k0_part20 (F := F) a0 h0 a1 h1 a2 h2 a3 h3 a4 h4 a5 h5 a6 h6 a7 h7 a8 h8 a9 h9 cc0_scratch4 cc0_scratch5 cc0_scratch6 cc0_scratch7 c v5 v7) Kt) := by
  simp only [k0_part20_eq_skeleton]; unfold k0_part20_skel runs
  simp only [Prog.lift, Prog.bind_op, Prog.bind_ret, Prog.pure_eq_ret]
  iintro ⟨#HR, Hd, Hd', Ho, Ha⟩ Hk
  iapply (wait_send (sent I) c true 4 (by decide) (rem 5) (fun x hx => (rem_gt 4 x hx).2) rfl ?_) $$ [Hd' Ho]
  · rfl
  · isplitr; · iexact HR
    isplitl [Hd']; · iexact Hd'
    iexact Ho
  iintro ⟨Hd', Ho, Hb⟩
  iapply (wait_recv (sent I) c true 4 (by decide) (rem 5) (rem_gt 4) rfl ?_) $$ [Hd' Ho]
  · rfl
  · isplitr; · iexact HR
    isplitl [Hd']; · iexact Hd'
    iexact Ho
  iintro ⟨Hd', Ho, Hl⟩
  ihave Hl := (Entails.of_eq (recv_acc (sent I) c true (by decide))) $$ Hl
  icases Hl with ⟨Hl, Hp⟩
  ihave Hp := (Entails.of_eq (feed_some true (by decide) c)) $$ Hp
  ihave Hl := (show accP c true (ck c (sr true (4 + 1))) fullShare (sent I true 4 (up (!true) c)) ⊢ pc c true 1 (sent I true 5 c) from
    Entails.of_eq (congrArg (accP c true (ck c (sr true (4 + 1))) fullShare) (sent_pass I c true (s := 4) (by decide)).symm)) $$ Hl
  ihave Ha := (accP_halves c false (ck c 3) (sent I false 5 c)).1 $$ Ha
  icases Ha with ⟨Ha, Hh⟩
  iapply (send_step (sent I) c false 5 (by decide) ((true, 5) :: rem 6) (Fin.ext (k0_dev13_eq c)) (acc_at false (ck c 3) (k0_off5_eq c 3)) (acc_at false (ck c 3) (k0_off5_eq c 3)) rfl rfl) $$ [Hd Ho Hp Ha]
  · isplitr; · iexact HR
    isplitl [Hd]; · iexact Hd
    isplitl [Ha]; · iexact Ha
    isplitl [Hp]; · iexact Hp
    isplitr; · rw [feed_none false (by decide)]; iempintro
    iexact Ho
  iintro ⟨Hd, Ho⟩
  rw [wp_ret]; imodintro
  iapply Hk
  isplitl [Hd]; · iexact Hd
  isplitl [Hd']; · iexact Hd'
  isplitl [Ho]; · iexact Ho
  isplitl [Hh]; · iexact Hh
  isplitl [Hb]; · iexact Hb
  iexact Hl

/-- The second transfer of step 5; three more half chunks of output. -/
theorem part21_wp {Kt} (v13 v19 : BitVec 32) :
    iprop(rec' I ∗ dirS true c 5 ∗ ow c ((true, 5) :: rem 6) ∗ permit true 5 c ∗ pc c true 1 (sent I true 5 c) ∗ pc c false 1 (sent I false 3 c) ∗ accP c false (ck c 3) fullShare.right (sent I false 5 c) ∗ pc c true 3 (sent I true 3 c) ∗ outO c I [(true, ck c 0), (false, ck c 0)])
      ⊢ iprop(((dirW true c 5 ∗ ow c (rem 6) ∗ accP c true (ck c 1) fullShare.right (sent I true 5 c) ∗ pc c false 1 (sent I false 3 c) ∗ accP c false (ck c 3) fullShare.right (sent I false 5 c) ∗ pc c true 3 (sent I true 3 c) ∗ outO c I [(false, ck c 3), (true, ck c 1), (false, ck c 1), (true, ck c 0), (false, ck c 0)]) -∗ Kt ⟨Scalar.muli v19 256#32, (sent I true 3 c)⟩)
        -∗ runs c (k0_part21 (F := F) a0 h0 a1 h1 a2 h2 a3 h3 a4 h4 a5 h5 a6 h6 a7 h7 a8 h8 a9 h9 cc0_scratch4 cc0_scratch5 cc0_scratch6 cc0_scratch7 c v13 v19 (shared I c (ck c 1)) (shared I c (ck c 3))) Kt) := by
  simp only [k0_part21_eq_skeleton]; unfold k0_part21_skel runs
  simp only [Prog.lift, Prog.bind_op, Prog.bind_ret, Prog.pure_eq_ret]
  iintro ⟨#HR, Hd', Ho, Hp', Hb, Ha, Hh, Hc, Hy⟩ Hk
  ihave Hb := (accP_halves c true (ck c 1) (sent I true 5 c)).1 $$ Hb
  icases Hb with ⟨Hb, Hh'⟩
  iapply (send_step (sent I) c true 5 (by decide) (rem 6) (Fin.ext (k0_dev14_eq c)) (acc_at true (ck c 1) (k0_off6_eq c 1)) (acc_at true (ck c 1) (k0_off6_eq c 1)) rfl rfl) $$ [Hd' Ho Hp' Hb]
  · isplitr; · iexact HR
    isplitl [Hd']; · iexact Hd'
    isplitl [Hb]; · iexact Hb
    isplitl [Hp']; · iexact Hp'
    isplitr; · rw [feed_none true (by decide)]; iempintro
    iexact Ho
  iintro ⟨Hd', Ho⟩
  iapply (ld_a c false (ck c 1) (k0_off9_eq c 1) (sent I false 3 c)) $$ [Ha]
  · iexact Ha
  iintro Ha
  iapply (ld_o c I [(true, ck c 0), (false, ck c 0)]) $$ [Hy]
  · iexact Hy
  iintro %_ Hy
  iapply (st_o c I [(true, ck c 0), (false, ck c 0)] false (ck c 1) (k0_off11_eq c 1) (out_f1 I c)) $$ [Hy]
  · iexact Hy
  iintro Hy
  iapply (ld_a c true (ck c 1) (k0_off10_eq c 1) (sent I true 5 c)) $$ [Hh']
  · iexact Hh'
  iintro Hh'
  iapply (ld_o c I [(false, ck c 1), (true, ck c 0), (false, ck c 0)]) $$ [Hy]
  · iexact Hy
  iintro %_ Hy
  iapply (st_o c I [(false, ck c 1), (true, ck c 0), (false, ck c 0)] true (ck c 1) (k0_off12_eq c 1) (out_t1 I c)) $$ [Hy]
  · iexact Hy
  iintro Hy
  iapply (ld_a c false (ck c 3) (k0_off9_eq c 3) (sent I false 5 c)) $$ [Hh]
  · iexact Hh
  iintro Hh
  iapply (ld_o c I [(true, ck c 1), (false, ck c 1), (true, ck c 0), (false, ck c 0)]) $$ [Hy]
  · iexact Hy
  iintro %_ Hy
  iapply (st_o c I [(true, ck c 1), (false, ck c 1), (true, ck c 0), (false, ck c 0)] false (ck c 3) (k0_off11_eq c 3) (out_f3 I c)) $$ [Hy]
  · iexact Hy
  iintro Hy
  iapply (ld_a c true (ck c 3) (k0_off10_eq c 3) (sent I true 3 c)) $$ [Hc]
  · iexact Hc
  iintro Hc
  rw [wp_ret]; imodintro
  iapply Hk
  isplitl [Hd']; · iexact Hd'
  isplitl [Ho]; · iexact Ho
  isplitl [Hh']; · iexact Hh'
  isplitl [Ha]; · iexact Ha
  isplitl [Hh]; · iexact Hh
  isplitl [Hc]; · iexact Hc
  iexact Hy

/-- One more half chunk, and step 5's first waits. -/
theorem part22_wp {Kt} (v7 v641 : BitVec 32) :
    iprop(rec' I ∗ dirW false c 5 ∗ dirW true c 5 ∗ ow c (rem 6) ∗ outO c I [(false, ck c 3), (true, ck c 1), (false, ck c 1), (true, ck c 0), (false, ck c 0)])
      ⊢ iprop(((dirS false c 6 ∗ dirV true c 5 ∗ ow c (rem 6) ∗ outO c I [(true, ck c 3), (false, ck c 3), (true, ck c 1), (false, ck c 1), (true, ck c 0), (false, ck c 0)] ∗ accP c false (ck c 3) fullShare.left (sent I false 5 c) ∗ pc c false 2 (sent I false 6 c) ∗ accP c true (ck c 1) fullShare.left (sent I true 5 c)) -∗ Kt ⟨⟩)
        -∗ runs c (k0_part22 (F := F) a0 h0 a1 h1 a2 h2 a3 h3 a4 h4 a5 h5 a6 h6 a7 h7 a8 h8 a9 h9 cc0_scratch4 cc0_scratch5 cc0_scratch6 cc0_scratch7 c v7 (shared I c (ck c 3)) v641 (sent I true 3 c)) Kt) := by
  simp only [k0_part22_eq_skeleton]; unfold k0_part22_skel runs
  simp only [Prog.lift, Prog.bind_op, Prog.bind_ret, Prog.pure_eq_ret]
  iintro ⟨#HR, Hd, Hd', Ho, Hy⟩ Hk
  iapply (ld_o c I [(false, ck c 3), (true, ck c 1), (false, ck c 1), (true, ck c 0), (false, ck c 0)]) $$ [Hy]
  · iexact Hy
  iintro %_ Hy
  iapply (st_o c I [(false, ck c 3), (true, ck c 1), (false, ck c 1), (true, ck c 0), (false, ck c 0)] true (ck c 3) (k0_off12_eq c 3) (out_t3 I c)) $$ [Hy]
  · iexact Hy
  iintro Hy
  iapply (wait_send (sent I) c false 5 (by decide) (rem 6) (fun x hx => (rem_gt 5 x hx).2) rfl ?_) $$ [Hd Ho]
  · rfl
  · isplitr; · iexact HR
    isplitl [Hd]; · iexact Hd
    iexact Ho
  iintro ⟨Hd, Ho, Ha⟩
  iapply (wait_recv (sent I) c false 5 (by decide) (rem 6) (rem_gt 5) rfl ?_) $$ [Hd Ho]
  · rfl
  · isplitr; · iexact HR
    isplitl [Hd]; · iexact Hd
    iexact Ho
  iintro ⟨Hd, Ho, Hl⟩
  ihave Hl := (Entails.of_eq (recv_acc (sent I) c false (by decide))) $$ Hl
  icases Hl with ⟨Hl, -⟩
  ihave Hl := (show accP c false (ck c (sr false (5 + 1))) fullShare (sent I false 5 (up (!false) c)) ⊢ pc c false 2 (sent I false 6 c) from
    Entails.of_eq (congrArg (accP c false (ck c (sr false (5 + 1))) fullShare) (sent_pass I c false (s := 5) (by decide)).symm)) $$ Hl
  iapply (wait_send (sent I) c true 5 (by decide) (rem 6) (fun x hx => (rem_gt 5 x hx).2) rfl ?_) $$ [Hd' Ho]
  · rfl
  · isplitr; · iexact HR
    isplitl [Hd']; · iexact Hd'
    iexact Ho
  iintro ⟨Hd', Ho, Hb⟩
  rw [wp_ret]; imodintro
  iapply Hk
  isplitl [Hd]; · iexact Hd
  isplitl [Hd']; · iexact Hd'
  isplitl [Ho]; · iexact Ho
  isplitl [Hy]; · iexact Hy
  isplitl [Ha]; · iexact Ha
  isplitl [Hl]; · iexact Hl
  iexact Hb

end Cert.Moe
-- ==== Proof.Whole.lean ====
/-
# The body, its parts one after the other
-/
module

public import proofs.«01_k».proof.Proof.PartsB
public import proofs.«01_k».proof.Proof.PartsC
public import proofs.«01_k».proof.Proof.PartsD

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Inp F) (c : Dev nD)

variable {h0 : a0.IsWhole} {h1 : a1.IsWhole} {h2 : a2.IsWhole} {h3 : a3.IsWhole} {h4 : a4.IsWhole} {h5 : a5.IsWhole} {h6 : a6.IsWhole}
  {h7 : a7.IsWhole} {h8 : a8.IsWhole} {h9 : a9.IsWhole}

/-- The kernel's body on one device: from the device's inputs, its landing buffers handed to its neighbours and its dues at the barrier,
it runs to its end with every chunk written. -/
theorem whole_wp {Kt} (V : Bool → Fin 4 → V4 F) (q : Vec F S1024x4 .f32) :
    iprop(rec' I ∗ (∃ W, owes (c : Thread nD τ) (O₀ c) W) ∗ cred (tallyAt (barCell c) 0 2) ∗ atPos ER (barCell c) 0 ∅ 0 ∗ dutyTok ER (barCell (up true c)) 0 false ∗ dutyTok ER (barCell (up false c)) 0 true ∗ barPay false (up true c) ∗ barPay true (up false c) ∗ dirS false c 0 ∗ dirS true c 0 ∗ hX I c ∗ ownsTc c a1 fullShare (I.rw c) ∗ ownsTc c a2 fullShare (I.ix c) ∗ hE I c ∗ hS I c ∗ ownsTc c a7 fullShare q ∗ pc c false 0 (V false 0) ∗ pc c false 1 (V false 1) ∗ pc c false 2 (V false 2) ∗ pc c false 3 (V false 3) ∗ pc c true 0 (V true 0) ∗ pc c true 1 (V true 1) ∗ pc c true 2 (V true 2) ∗ pc c true 3 (V true 3) ∗ outO c I [])
      ⊢ iprop(((atPos ER (barCell c) 1 ∅ 0 ∗ dirS false c 6 ∗ dirS true c 6 ∗ ow c (rem 6) ∗ hX I c ∗ ownsTc c a1 fullShare (I.rw c) ∗ ownsTc c a2 fullShare (I.ix c) ∗ hE I c ∗ hS I c ∗ hC I c ∗ pc c false 0 (sent I false 4 c) ∗ pc c false 1 (sent I false 3 c) ∗ pc c false 2 (sent I false 6 c) ∗ pc c false 3 (sent I false 5 c) ∗ pc c true 0 (sent I true 4 c) ∗ pc c true 1 (sent I true 5 c) ∗ pc c true 2 (sent I true 6 c) ∗ pc c true 3 (sent I true 3 c) ∗ bufP c false 1 (to3 (sent I false 1 (up true c))) ∗ bufP c false 2 (to3 (sent I false 2 (up true c))) ∗ bufP c true 1 (to3 (sent I true 1 (up false c))) ∗ bufP c true 2 (to3 (sent I true 2 (up false c))) ∗ outO c I [(true, ck c 2), (false, ck c 2), (true, ck c 3), (false, ck c 3), (true, ck c 1), (false, ck c 1), (true, ck c 0), (false, ck c 0)]) -∗ Kt ⟨⟩)
        -∗ runs c (cc0_body (F := F) a0 h0 a1 h1 a2 h2 a3 h3 a4 h4 a5 h5 a6 h6 a7 h7 a8 h8 a9 h9 cc0_scratch4 cc0_scratch5 cc0_scratch6 cc0_scratch7) Kt) := by
  rw [cc0_body_eq_skeleton]; unfold cc0_body_skel runs
  rw [wp_bind, k0_part23_eq_skeleton]; unfold k0_part23_skel
  iintro ⟨#HR, R1, R2, R3, R4, R5, R6, R7, R8, R9, R10, R11, R12, R13, R14, R15, R16, R17, R18, R19, R20, R21, R22, R23, R24⟩ Hk
  rw [wp_bind]
  iapply (part1_wp I c) $$ [R1 R2 R3 R4 R5 R6 R7 R10]
  · isplitr; · iexact HR
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R10
  iintro %v5 %v7 %v10 %v13 %v16 %v19 ⟨⟨R25, R26⟩, ⟨R27, R28⟩, R29, R30, R31⟩
  try dsimp only
  rw [wp_bind]
  iapply (part2_wp I c _) $$ [R31 R11 R12 R15]
  · isplitl [R31]; · iexact R31
    isplitl [R11]; · iexact R11
    isplitl [R12]; · iexact R12
    iexact R15
  iintro ⟨R32, R33, R34, R35⟩
  try dsimp only
  rw [wp_bind]
  iapply (part3_wp I c _ _ _) $$ [R13 R16 R20]
  · isplitl [R13]; · iexact R13
    isplitl [R16]; · iexact R16
    iexact R20
  iintro ⟨R36, R37, R38⟩
  try dsimp only
  rw [wp_bind]
  iapply (part4_wp I c _ _ _) $$ [R8 R9 R30 R25 R27 R37 R38 R32 R35 R36]
  · isplitr; · iexact HR
    isplitl [R8]; · iexact R8
    isplitl [R9]; · iexact R9
    isplitl [R30]; · iexact R30
    isplitl [R25]; · iexact R25
    isplitl [R27]; · iexact R27
    isplitl [R37]; · iexact R37
    isplitl [R38]; · iexact R38
    isplitl [R32]; · iexact R32
    isplitl [R35]; · iexact R35
    iexact R36
  iintro ⟨R39, R40, R41, R42, R43, R44⟩
  try dsimp only
  rw [wp_bind]
  iapply (part5_wp I c _ _ _ _) $$ [R42 R44 R19 R23]
  · isplitl [R42]; · iexact R42
    isplitl [R44]; · iexact R44
    isplitl [R19]; · iexact R19
    iexact R23
  iintro ⟨R45, R46, R47, R48⟩
  try dsimp only
  rw [wp_bind]
  iapply (part6_wp I c _ _ _) $$ [R43 R46 R17]
  · isplitl [R43]; · iexact R43
    isplitl [R46]; · iexact R46
    iexact R17
  iintro ⟨R49, R50, R51⟩
  try dsimp only
  rw [wp_bind]
  iapply (part7_wp I c _ _) $$ [R39 R40 R41 R21]
  · isplitr; · iexact HR
    isplitl [R39]; · iexact R39
    isplitl [R40]; · iexact R40
    isplitl [R41]; · iexact R41
    iexact R21
  iintro ⟨R52, R53, R54, R55, R56, R57, R58⟩
  try dsimp only
  rw [wp_bind]
  iapply (part8_wp I c _ _ _) $$ [R53 R54 R47 R57 R55]
  · isplitr; · iexact HR
    isplitl [R53]; · iexact R53
    isplitl [R54]; · iexact R54
    isplitl [R47]; · iexact R47
    isplitl [R57]; · iexact R57
    iexact R55
  iintro ⟨R59, R60, R61, R62, R63, R64⟩
  try dsimp only
  rw [wp_bind]
  iapply (part9_wp I c _ _ _) $$ [R52 R59 R60 R26 R28 R61 R63 R62 R64 R45 R49 R50]
  · isplitr; · iexact HR
    isplitl [R52]; · iexact R52
    isplitl [R59]; · iexact R59
    isplitl [R60]; · iexact R60
    isplitl [R26]; · iexact R26
    isplitl [R28]; · iexact R28
    isplitl [R61]; · iexact R61
    isplitl [R63]; · iexact R63
    isplitl [R62]; · iexact R62
    isplitl [R64]; · iexact R64
    isplitl [R45]; · iexact R45
    isplitl [R49]; · iexact R49
    iexact R50
  iintro ⟨R65, R66, R67, R68, R69, R70⟩
  try dsimp only
  rw [wp_bind]
  iapply (part10_wp I c _ _ _) $$ [R70 R18 R22]
  · isplitl [R70]; · iexact R70
    isplitl [R18]; · iexact R18
    iexact R22
  iintro ⟨R71, R72, R73⟩
  try dsimp only
  rw [wp_bind]
  iapply (part11_wp I c _ _) $$ [R65 R66 R67]
  · isplitr; · iexact HR
    isplitl [R65]; · iexact R65
    isplitl [R66]; · iexact R66
    iexact R67
  iintro ⟨R74, R75, R76, R77, R78, R79, R80⟩
  try dsimp only
  rw [wp_bind]
  iapply (part12_wp I c _ _) $$ [R75 R76 R72 R73 R78]
  · isplitr; · iexact HR
    isplitl [R75]; · iexact R75
    isplitl [R76]; · iexact R76
    isplitl [R72]; · iexact R72
    isplitl [R73]; · iexact R73
    iexact R78
  iintro ⟨R81, R82, R83, R84, R85, R86, R87⟩
  try dsimp only
  rw [wp_bind]
  iapply (part13_wp I c _ _ _) $$ [R74 R81 R82 R87 R79 R83 R84 R58 R56 R68 R14]
  · isplitr; · iexact HR
    isplitl [R74]; · iexact R74
    isplitl [R81]; · iexact R81
    isplitl [R82]; · iexact R82
    isplitl [R87]; · iexact R87
    isplitl [R79]; · iexact R79
    isplitl [R83]; · iexact R83
    isplitl [R84]; · iexact R84
    isplitl [R58]; · iexact R58
    isplitl [R56]; · iexact R56
    isplitl [R68]; · iexact R68
    iexact R14
  iintro ⟨R88, R89, R90, R91, R92⟩
  try dsimp only
  rw [wp_bind]
  iapply (part14_wp I c _ _) $$ [R88 R89 R90]
  · isplitr; · iexact HR
    isplitl [R88]; · iexact R88
    isplitl [R89]; · iexact R89
    iexact R90
  iintro ⟨R93, R94, R95, R96, R97, R98, R99⟩
  try dsimp only
  rw [wp_bind]
  iapply (part15_wp I c _ _ _) $$ [R94 R95 R51 R48 R97]
  · isplitr; · iexact HR
    isplitl [R94]; · iexact R94
    isplitl [R95]; · iexact R95
    isplitl [R51]; · iexact R51
    isplitl [R48]; · iexact R48
    iexact R97
  iintro ⟨R100, R101, R102, R103, R104, R105, R106⟩
  try dsimp only
  rw [wp_bind]
  iapply (part16_wp I c _ _ _ _) $$ [R93 R100 R101 R106 R98 R102 R103 R80 R77 R91 R92]
  · isplitr; · iexact HR
    isplitl [R93]; · iexact R93
    isplitl [R100]; · iexact R100
    isplitl [R101]; · iexact R101
    isplitl [R106]; · iexact R106
    isplitl [R98]; · iexact R98
    isplitl [R102]; · iexact R102
    isplitl [R103]; · iexact R103
    isplitl [R80]; · iexact R80
    isplitl [R77]; · iexact R77
    isplitl [R91]; · iexact R91
    iexact R92
  iintro ⟨R107, R108, R109, R110, R111⟩
  try dsimp only
  rw [wp_bind]
  iapply (part17_wp I c _ _) $$ [R107 R108 R109]
  · isplitr; · iexact HR
    isplitl [R107]; · iexact R107
    isplitl [R108]; · iexact R108
    iexact R109
  iintro ⟨R112, R113, R114, R115, R116, R117, R118⟩
  try dsimp only
  rw [wp_bind]
  iapply (part18_wp I c _ _ _) $$ [R112 R113 R114 R117 R116 R99 R96]
  · isplitr; · iexact HR
    isplitl [R112]; · iexact R112
    isplitl [R113]; · iexact R113
    isplitl [R114]; · iexact R114
    isplitl [R117]; · iexact R117
    isplitl [R116]; · iexact R116
    isplitl [R99]; · iexact R99
    iexact R96
  iintro ⟨R119, R120, R121, R122, R123⟩
  try dsimp only
  rw [wp_bind]
  iapply (part19_wp I c _ _ _) $$ [R119 R121 R123 R24]
  · isplitr; · iexact HR
    isplitl [R119]; · iexact R119
    isplitl [R121]; · iexact R121
    isplitl [R123]; · iexact R123
    iexact R24
  iintro ⟨R124, R125, R126, R127, R128, R129, R130⟩
  try dsimp only
  rw [wp_bind]
  iapply (part20_wp I c _ _) $$ [R124 R120 R125 R129]
  · isplitr; · iexact HR
    isplitl [R124]; · iexact R124
    isplitl [R120]; · iexact R120
    isplitl [R125]; · iexact R125
    iexact R129
  iintro ⟨R131, R132, R133, R134, R135, R136⟩
  try dsimp only
  rw [wp_bind]
  iapply (part21_wp I c _ _) $$ [R132 R133 R130 R136 R115 R134 R118 R127]
  · isplitr; · iexact HR
    isplitl [R132]; · iexact R132
    isplitl [R133]; · iexact R133
    isplitl [R130]; · iexact R130
    isplitl [R136]; · iexact R136
    isplitl [R115]; · iexact R115
    isplitl [R134]; · iexact R134
    isplitl [R118]; · iexact R118
    iexact R127
  iintro ⟨R137, R138, R139, R140, R141, R142, R143⟩
  try dsimp only
  rw [wp_bind]
  iapply (part22_wp I c _ _) $$ [R131 R137 R138 R143]
  · isplitr; · iexact HR
    isplitl [R131]; · iexact R131
    isplitl [R137]; · iexact R137
    isplitl [R138]; · iexact R138
    iexact R143
  iintro ⟨R144, Hd', Ho, Hy, R148, Ha, R150⟩
  try dsimp only
  simp only [Prog.lift, Prog.bind_op, Prog.bind_ret, Prog.pure_eq_ret]
  iapply (wait_recv (sent I) c true 5 (by decide) (rem 6) (rem_gt 5) rfl ?_) $$ [Hd' Ho]
  · rfl
  · isplitr; · iexact HR
    isplitl [Hd']; · iexact Hd'
    iexact Ho
  iintro ⟨Hd', Ho, Hb⟩
  ihave Hb := (Entails.of_eq (recv_acc (sent I) c true (by decide))) $$ Hb
  icases Hb with ⟨Hb, -⟩
  ihave Hb := (show accP c true (ck c (sr true (5 + 1))) fullShare (sent I true 5 (up (!true) c)) ⊢ pc c true 2 (sent I true 6 c) from
    Entails.of_eq (congrArg (accP c true (ck c (sr true (5 + 1))) fullShare) (sent_pass I c true (s := 5) (by decide)).symm)) $$ Hb
  iapply (ld_a c false (ck c 2) (k0_off9_eq c 2) (sent I false 6 c)) $$ [Ha]
  · iexact Ha
  iintro Ha
  iapply (ld_o c I [(true, ck c 3), (false, ck c 3), (true, ck c 1), (false, ck c 1), (true, ck c 0), (false, ck c 0)]) $$ [Hy]
  · iexact Hy
  iintro %_ Hy
  iapply (st_o c I [(true, ck c 3), (false, ck c 3), (true, ck c 1), (false, ck c 1), (true, ck c 0), (false, ck c 0)] false (ck c 2) (k0_off11_eq c 2) (out_f2 I c)) $$ [Hy]
  · iexact Hy
  iintro Hy
  iapply (ld_a c true (ck c 2) (k0_off10_eq c 2) (sent I true 6 c)) $$ [Hb]
  · iexact Hb
  iintro Hb
  rw [wp_ret]; imodintro; try dsimp only
  iapply (ld_o c I [(false, ck c 2), (true, ck c 3), (false, ck c 3), (true, ck c 1), (false, ck c 1), (true, ck c 0), (false, ck c 0)]) $$ [Hy]
  · iexact Hy
  iintro %_ Hy
  iapply (st_o c I [(false, ck c 2), (true, ck c 3), (false, ck c 3), (true, ck c 1), (false, ck c 1), (true, ck c 0), (false, ck c 0)] true (ck c 2) (k0_off12_eq c 2) (out_t2 I c)) $$ [Hy]
  · iexact Hy
  iintro Hy
  rw [wp_ret]; imodintro
  ihave R128 := (accP_halves c false (ck c 0) (sent I false 4 c)).2 $$ [R128 R122]
  · isplitl [R128]; · iexact R128
    iexact R122
  ihave R148 := (accP_halves c false (ck c 3) (sent I false 5 c)).2 $$ [R148 R141]
  · isplitl [R148]; · iexact R148
    iexact R141
  ihave R135 := (accP_halves c true (ck c 0) (sent I true 4 c)).2 $$ [R135 R126]
  · isplitl [R135]; · iexact R135
    iexact R126
  ihave R150 := (accP_halves c true (ck c 1) (sent I true 5 c)).2 $$ [R150 R139]
  · isplitl [R150]; · iexact R150
    iexact R139
  iapply Hk
  isplitl [R29]; · iexact R29
  isplitl [R144]; · iexact R144
  isplitl [Hd']; · iexact Hd'
  isplitl [Ho]; · iexact Ho
  isplitl [R110]; · iexact R110
  isplitl [R33]; · iexact R33
  isplitl [R34]; · iexact R34
  isplitl [R71]; · iexact R71
  isplitl [R111]; · iexact R111
  isplitl [R69]; · iexact R69
  isplitl [R128]; · iexact R128
  isplitl [R140]; · iexact R140
  isplitl [Ha]; · iexact Ha
  isplitl [R148]; · iexact R148
  isplitl [R135]; · iexact R135
  isplitl [R150]; · iexact R150
  isplitl [Hb]; · iexact Hb
  isplitl [R142]; · iexact R142
  isplitl [R85]; · iexact R85
  isplitl [R104]; · iexact R104
  isplitl [R86]; · iexact R86
  isplitl [R105]; · iexact R105
  iexact Hy

end Cert.Moe
-- ==== Proof.Pieces.lean ====
/-
# The scratch buffers as their pieces
-/
module

public import proofs.«01_k».proof.Proof.Whole

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (c : Dev nD)

/-! ## The accumulator -/

theorem acc_disjoint : ∀ t t' : Bool × Fin 4, t ≠ t' → Disjoint (accR t.1 t.2).set (accR t'.1 t'.2).set := by
  rintro ⟨b, k⟩ ⟨b', k'⟩ h
  by_cases hb : b = b'
  · subst hb
    have hk : k.val ≠ k'.val := fun e => h (by rw [Fin.ext e])
    exact Rect.unit_disjoint 1 (by show k.val + 1 ≤ k'.val ∨ k'.val + 1 ≤ k.val; omega)
  · refine Rect.unit_disjoint 0 (?_ : cond b 1 0 + 1 ≤ cond b' 1 0 ∨ cond b' 1 0 + 1 ≤ cond b 1 0)
    cases b <;> cases b' <;> first | exact absurd rfl hb | decide

theorem acc_cover : (Finset.univ : Finset (Bool × Fin 4)).biUnion (fun t => (accR t.1 t.2).set) = Finset.univ := by
  refine Finset.eq_univ_of_forall fun i => Finset.mem_biUnion.mpr ⟨(decide ((i 0).val = 1), i 1), Finset.mem_univ _, ?_⟩
  have h0 : (i 0).val < 2 := (i 0).isLt
  rw [Rect.mem_set_unit]
  intro a
  fin_cases a
  · show cond (decide ((i 0).val = 1)) 1 0 ≤ (i 0).val ∧ (i 0).val < cond (decide ((i 0).val = 1)) 1 0 + 1
    by_cases h : (i 0).val = 1 <;> simp [h] <;> omega
  · show (i 1).val ≤ (i 1).val ∧ (i 1).val < (i 1).val + 1
    omega
  · exact ⟨Nat.zero_le _, by have := (i 2).isLt; simpa using this⟩
  · exact ⟨Nat.zero_le _, by have := (i 3).isLt; simpa using this⟩

/-- The pieces in a device's own order. -/
theorem acc_list (Φ : Bool × Fin 4 → sProp 𝕄) :
    bigSep Finset.univ Φ = iprop(Φ (false, ck c 0) ∗ Φ (false, ck c 1) ∗ Φ (false, ck c 2) ∗ Φ (false, ck c 3)
      ∗ Φ (true, ck c 0) ∗ Φ (true, ck c 1) ∗ Φ (true, ck c 2) ∗ Φ (true, ck c 3)) := by
  exact bigSep_univ_eq_bigSepL [(false, ck c 0), (false, ck c 1), (false, ck c 2), (false, ck c 3), (true, ck c 0), (true, ck c 1), (true, ck c 2), (true, ck c 3)]
    (by revert c; decide) (by revert c; decide) Φ

/-- The accumulator whole is its eight pieces, -/
theorem acc_split : iprop(∃ f : Buf (Elt F) ((c : Thread nD τ).loc cc0_scratch0), ((c : Thread nD τ).loc cc0_scratch0) ↦{fullShare} f)
    ⊢ (iprop(∃ V : Bool → Fin 4 → V4 F, pc c false 0 (V false 0) ∗ pc c false 1 (V false 1) ∗ pc c false 2 (V false 2) ∗ pc c false 3 (V false 3)
      ∗ pc c true 0 (V true 0) ∗ pc c true 1 (V true 1) ∗ pc c true 2 (V true 2) ∗ pc c true 3 (V true 3)) : sProp 𝕄) := by
  iintro ⟨%f, H⟩
  ihave H := (Entails.of_eq (owns_whole (c : Thread nD τ) cc0_scratch0 fullShare f).symm) $$ H
  ihave H := (owns_rects (c : Thread nD τ) a6 fullShare (fun t : Bool × Fin 4 => accR t.1 t.2) (fun _ _ => rfl) acc_disjoint acc_cover f) $$ H
  iexists fun b r => fun j => f ((accR b (ck c r)).emb j)
  ihave H := (Entails.of_eq (acc_list c _)) $$ H
  iexact H

/-- and the pieces at any contents are the whole at some. -/
theorem acc_join (v0 v1 v2 v3 w0 w1 w2 w3 : V4 F) :
    iprop(pc c false 0 v0 ∗ pc c false 1 v1 ∗ pc c false 2 v2 ∗ pc c false 3 v3 ∗ pc c true 0 w0 ∗ pc c true 1 w1 ∗ pc c true 2 w2 ∗ pc c true 3 w3)
      ⊢ (iprop(∃ f : Buf (Elt F) ((c : Thread nD τ).loc cc0_scratch0), ((c : Thread nD τ).loc cc0_scratch0) ↦{fullShare} f) : sProp 𝕄) := by
  have h1 (b : Bool) (r : Fin 4) (v : V4 F) : (pc c b r v : sProp 𝕄) ⊢ ownsSat (c : Thread nD τ) (accM b (ck c r)) fullShare (fun _ => True) :=
    ownsSat_intro (c : Thread nD τ) (accM b (ck c r)) fullShare trivial
  have h2 := ownsSat_of_rects (Name := ℕ) (U := UU) (Lvl := ℕ) (Ix := ℕ) (Val := Elt F) (c : Thread nD τ) a6 fullShare (fun t : Bool × Fin 4 => accR t.1 t.2) (fun _ _ => rfl) acc_disjoint acc_cover (fun _ _ => True)
  rw [acc_list c] at h2
  refine BIBase.Entails.trans ?_ (h2.trans ?_)
  · iintro ⟨A, B, C, D, E, G, H, J⟩
    isplitl [A]
    · iapply (h1 false 0 v0); iexact A
    isplitl [B]
    · iapply (h1 false 1 v1); iexact B
    isplitl [C]
    · iapply (h1 false 2 v2); iexact C
    isplitl [D]
    · iapply (h1 false 3 v3); iexact D
    isplitl [E]
    · iapply (h1 true 0 w0); iexact E
    isplitl [G]
    · iapply (h1 true 1 w1); iexact G
    isplitl [H]
    · iapply (h1 true 2 w2); iexact H
    · iapply (h1 true 3 w3); iexact J
  refine (ownsSat_any (c : Thread nD τ) a6 fullShare).trans ?_
  iintro ⟨%X, H⟩
  iexists X
  iapply (Entails.of_eq (owns_whole (c : Thread nD τ) cc0_scratch0 fullShare X)); iexact H

/-! ## A landing buffer -/

theorem buf_disjoint : ∀ t t' : Fin 2, t ≠ t' → Disjoint (bufR t.val).set (bufR t'.val).set := by
  intro t t' h
  have hk : t.val ≠ t'.val := fun e => h (Fin.ext e)
  have := t.isLt; have := t'.isLt
  exact Rect.unit_disjoint 0 (by show t.val % 2 + 1 ≤ t'.val % 2 ∨ t'.val % 2 + 1 ≤ t.val % 2; omega)

theorem buf_cover : (Finset.univ : Finset (Fin 2)).biUnion (fun t => (bufR t.val).set) = Finset.univ := by
  refine Finset.eq_univ_of_forall fun i => Finset.mem_biUnion.mpr ⟨i 0, Finset.mem_univ _, ?_⟩
  have h0 : (i 0).val < 2 := (i 0).isLt
  rw [Rect.mem_set_unit]
  intro a
  fin_cases a
  · show (i 0).val % 2 ≤ (i 0).val ∧ (i 0).val < (i 0).val % 2 + 1
    omega
  · exact ⟨Nat.zero_le _, by have := (i 1).isLt; simpa using this⟩
  · exact ⟨Nat.zero_le _, by have := (i 2).isLt; simpa using this⟩

theorem buf_list (Φ : Fin 2 → sProp 𝕄) : bigSep Finset.univ Φ = iprop(Φ 0 ∗ Φ 1) :=
  bigSep_univ_eq_bigSepL [0, 1] (by decide) (by decide) Φ

/-- A landing buffer whole is what its owner hands over at the barrier. -/
theorem buf_split (b : Bool) (f : Vec F S2x256x512 .bf16) : (ownsTc c (bufW b) fullShare f : sProp 𝕄) ⊢ barPay b (up (!b) c) := by
  unfold barPay
  rw [up_up]
  iintro H
  ihave H := (owns_rects (c : Thread nD τ) (bufW b) fullShare (fun t : Fin 2 => bufR t.val) (fun _ _ => rfl) buf_disjoint buf_cover f) $$ H
  ihave H := (Entails.of_eq (buf_list _)) $$ H
  icases H with ⟨H0, H1⟩
  isplitl [H0]
  · iapply (bufP_any (F := F) c b 0 (fun j => f ((bufR 0).emb j))); unfold bufP; iexact H0
  · iapply (bufP_any (F := F) c b 1 (fun j => f ((bufR 1).emb j))); unfold bufP; iexact H1

/-- Its two slots at any contents are the whole at some. -/
theorem buf_join (b : Bool) (v w : Vec F S1x256x512 .bf16) : iprop(bufP c b 1 v ∗ bufP c b 2 w) ⊢ (iprop(∃ f, ownsTc c (bufW b) fullShare f) : sProp 𝕄) := by
  have h1 (s : ℕ) (v : Vec F S1x256x512 .bf16) : (bufP c b s v : sProp 𝕄) ⊢ ownsSat (c : Thread nD τ) (bufM b s) fullShare (fun _ => True) :=
    ownsSat_intro (c : Thread nD τ) (bufM b s) fullShare trivial
  have h0 : (bufP c b 2 w : sProp 𝕄) ⊢ ownsSat (c : Thread nD τ) (bufM b 0) fullShare (fun _ => True) := h1 2 w
  have h2 := ownsSat_of_rects (Name := ℕ) (U := UU) (Lvl := ℕ) (Ix := ℕ) (Val := Elt F) (c : Thread nD τ) (bufW b) fullShare (fun t : Fin 2 => bufR t.val) (fun _ _ => rfl) buf_disjoint buf_cover (fun _ _ => True)
  rw [buf_list] at h2
  refine BIBase.Entails.trans ?_ (h2.trans (ownsSat_any (c : Thread nD τ) (bufW b) fullShare))
  iintro ⟨A, B⟩
  isplitl [B]
  · iapply h0; iexact B
  · iapply (h1 1 v); iexact A

/-! ## Closing the cells -/

section Close
variable (SV : Bool → ℕ → Dev nD → V4 F)

/-- A cell whose three rounds are over is at zero, -/
theorem close_at (b rv : Bool) (s : ℕ) : iprop(recs SV ∗ atX b rv s 3 c) ⊢ (iprop(|={Set.univ}=> (semVal (cellX b rv s c) 0)) : sProp 𝕄) := by
  unfold atX
  iintro ⟨#R, A, -⟩
  ihave #H := (recs_cellX SV b rv s c) $$ R
  icases H with ⟨%κ, #HI⟩
  iapply (Rounds.cell_close ER (Rd SV) (Set.mem_univ κ) (fun h => h) (R := 3) (duties_later SV _))
  isplitr; · iexact HI
  iexact A

/-- a pair of them too, -/
theorem close_pair (b rv : Bool) : iprop(recs SV ∗ posX b rv 6 c) ⊢ (iprop(|={Set.univ}=> (semVal (cellX b rv 0 c) 0 ∗ semVal (cellX b rv 1 c) 0)) : sProp 𝕄) := by
  unfold posX
  iintro ⟨#R, A, B⟩
  imod (close_at c SV b rv 0) $$ [A] with A
  · isplitr; · iexact R
    iexact A
  imod (close_at c SV b rv 1) $$ [B] with B
  · isplitr; · iexact R
    iexact B
  imodintro
  isplitl [A] <;> iassumption

/-- a direction's four, -/
theorem close_dir (b : Bool) : iprop(recs SV ∗ dirS b c 6) ⊢ (iprop(|={Set.univ}=> ((semVal (cellX b false 0 c) 0 ∗ semVal (cellX b false 1 c) 0) ∗ semVal (cellX b true 0 c) 0 ∗ semVal (cellX b true 1 c) 0)) : sProp 𝕄) := by
  unfold dirS
  iintro ⟨#R, -, -, A, B⟩
  imod (close_pair c SV b false) $$ [A] with A
  · isplitr; · iexact R
    iexact A
  imod (close_pair c SV b true) $$ [B] with B
  · isplitr; · iexact R
    iexact B
  imodintro
  isplitl [A] <;> iassumption

/-- and the barrier's after its round. -/
theorem close_bar : iprop(recs SV ∗ atPos ER (barCell c) 1 ∅ 0) ⊢ (iprop(|={Set.univ}=> (semVal (barCell c) 0)) : sProp 𝕄) := by
  iintro ⟨#R, A⟩
  ihave #H := (recs_cell SV (c, none)) $$ R
  icases H with ⟨%κ, #HI⟩
  iapply (Rounds.cell_close ER (Rd SV) (Set.mem_univ κ) (fun h => h) (R := 1) (duties_bar_later SV c))
  isplitr; · iexact HI
  iexact A

end Close

end Cert.Moe
-- ==== Proof.Region.lean ====
/-
# The kernel's body as the pipeline's obligation
-/
module

public import proofs.«01_k».proof.Proof.Pieces
public import proofs.«01_k».proof.Proof.Gen.KernelIdeal.Frame

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-- The five arguments of every device, as its windows stage them. -/
def inp : Inp F where
  x d := (win0_0.blk (0 : Fin 1)).view.read (Elt F) ((s₀ m (fun _ => default)).mem ((d : Thread nD τ).loc main_arg0))
  rw d := (win0_1.blk (0 : Fin 1)).view.read (Elt F) ((s₀ m (fun _ => default)).mem ((d : Thread nD τ).loc main_arg1))
  ix d := (win0_2.blk (0 : Fin 1)).view.read (Elt F) ((s₀ m (fun _ => default)).mem ((d : Thread nD τ).loc main_arg2))
  ew d := (win0_3.blk (0 : Fin 1)).view.read (Elt F) ((s₀ m (fun _ => default)).mem ((d : Thread nD τ).loc main_arg3))
  sw d := (win0_4.blk (0 : Fin 1)).view.read (Elt F) ((s₀ m (fun _ => default)).mem ((d : Thread nD τ).loc main_arg4))

variable (c : Dev nD)

/-- The scratch buffers, at any contents. -/
def scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What device `c` starts the exchange with: the records, its barrier's two units to come, its place on the barrier cell, the two
    barrier tokens it pays with, and both directions at their first step. -/
def start : sProp 𝕄 :=
  iprop(rec' (inp m) ∗ cred (tallyAt (barCell c) 0 2) ∗ atPos ER (barCell c) 0 ∅ 0
    ∗ dutyTok ER (barCell (up true c)) 0 false ∗ dutyTok ER (barCell (up false c)) 0 true ∗ dirS false c 0 ∗ dirS true c 0)

/-- One direction's four semaphores at zero. -/
def zeros (b : Bool) : sProp 𝕄 :=
  iprop((semVal (cellX b false 0 c) 0 ∗ semVal (cellX b false 1 c) 0) ∗ semVal (cellX b true 0 c) 0 ∗ semVal (cellX b true 1 c) 0)

def Φ₀ : sProp 𝕄 := iprop(start m c ∗ scr (F := F) c)
/-- After the point the scratch is free again and every cell closed. -/
def Φ₁ : sProp 𝕄 := iprop(scr (F := F) c ∗ zeros (F := F) c false ∗ zeros (F := F) c true ∗ semVal (barCell c) 0)

/-- The pipeline's data. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inp m).x c
    | ⟨1, _⟩ => (inp m).rw c
    | ⟨2, _⟩ => (inp m).ix c
    | ⟨3, _⟩ => (inp m).ew c
    | ⟨4, _⟩ => (inp m).sw c
    | ⟨5, _⟩ => out (inp m) c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev t₀ : Fin cfg0.N := t0_0

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem before_0 (d) : (dats m ρ 0 c).before (0 : Fin 6) t₀ d = (inp m).x c := by unfold Dat.before; rw [if_pos (fetch0_0 t₀)]; rfl
theorem before_1 (d) : (dats m ρ 0 c).before (1 : Fin 6) t₀ d = (inp m).rw c := by unfold Dat.before; rw [if_pos (fetch0_1 t₀)]; rfl
theorem before_2 (d) : (dats m ρ 0 c).before (2 : Fin 6) t₀ d = (inp m).ix c := by unfold Dat.before; rw [if_pos (fetch0_2 t₀)]; rfl
theorem before_3 (d) : (dats m ρ 0 c).before (3 : Fin 6) t₀ d = (inp m).ew c := by unfold Dat.before; rw [if_pos (fetch0_3 t₀)]; rfl
theorem before_4 (d) : (dats m ρ 0 c).before (4 : Fin 6) t₀ d = (inp m).sw c := by unfold Dat.before; rw [if_pos (fetch0_4 t₀)]; rfl

def bodyPre : sProp 𝕄 :=
  iprop(Φ₀ m c ∗ (dats m ρ 0 c).owesAt 0 t₀.castSucc
    ∗ (∃ d, ownsTc c a0 fullShare ((dats m ρ 0 c).before (0 : Fin 6) t₀ d))
    ∗ (∃ d, ownsTc c a1 fullShare ((dats m ρ 0 c).before (1 : Fin 6) t₀ d))
    ∗ (∃ d, ownsTc c a2 fullShare ((dats m ρ 0 c).before (2 : Fin 6) t₀ d))
    ∗ (∃ d, ownsTc c a3 fullShare ((dats m ρ 0 c).before (3 : Fin 6) t₀ d))
    ∗ (∃ d, ownsTc c a4 fullShare ((dats m ρ 0 c).before (4 : Fin 6) t₀ d))
    ∗ (∃ d, ownsTc c a5 fullShare ((dats m ρ 0 c).before (5 : Fin 6) t₀ d)))

def bodyPost : sProp 𝕄 :=
  iprop(Φ₁ (F := F) c ∗ (dats m ρ 0 c).owesAt 0 t₀.succ ∗ ownsTc c a0 fullShare ((inp m).x c) ∗ ownsTc c a1 fullShare ((inp m).rw c)
    ∗ ownsTc c a2 fullShare ((inp m).ix c) ∗ ownsTc c a3 fullShare ((inp m).ew c) ∗ ownsTc c a4 fullShare ((inp m).sw c)
    ∗ ownsTc c a5 fullShare (out (inp m) c))

/-- The eight stores of the result reach every place of it. -/
theorem outD_all (i : S1024x1024.Idx) :
    i ∈ outD [(true, ck c 2), (false, ck c 2), (true, ck c 3), (false, ck c 3), (true, ck c 1), (false, ck c 1), (true, ck c 0), (false, ck c 0)] := by
  have h := mem_outR i
  generalize halfOf i = b at h
  generalize chunkOf i = k at h
  have hk : k = ck c 0 ∨ k = ck c 1 ∨ k = ck c 2 ∨ k = ck c 3 := by clear h; revert c k; decide
  simp only [outD, Finset.mem_union, Finset.notMem_empty, _root_.false_or]
  rcases hk with rfl | rfl | rfl | rfl <;> cases b <;> simp only [h, _root_.true_or, _root_.or_true]

theorem out_done (I : Inp F) :
    (outO c I [(true, ck c 2), (false, ck c 2), (true, ck c 3), (false, ck c 3), (true, ck c 1), (false, ck c 1), (true, ck c 0), (false, ck c 0)] : sProp 𝕄)
      ⊢ ownsTc c a5 fullShare (out I c) := by
  unfold outO
  iintro ⟨%X, %hX, H⟩
  rw [show X = out I c from funext fun i => hX i (outD_all c i)]
  iexact H

theorem owns_scr0 (f : Vec F S2x4x256x512 .bf16) : (ownsTc c a6 fullShare f : sProp 𝕄) = (((c : Thread nD τ).loc cc0_scratch0) ↦{fullShare} f) := owns_whole (c : Thread nD τ) cc0_scratch0 fullShare f
theorem owns_scr1 (f : Vec F S1024x4 .f32) : (ownsTc c a7 fullShare f : sProp 𝕄) = (((c : Thread nD τ).loc cc0_scratch1) ↦{fullShare} f) := owns_whole (c : Thread nD τ) cc0_scratch1 fullShare f
theorem owns_scr2 (f : Vec F S2x256x512 .bf16) : (ownsTc c (bufW false) fullShare f : sProp 𝕄) = (((c : Thread nD τ).loc cc0_scratch2) ↦{fullShare} f) := owns_whole (c : Thread nD τ) cc0_scratch2 fullShare f
theorem owns_scr3 (f : Vec F S2x256x512 .bf16) : (ownsTc c (bufW true) fullShare f : sProp 𝕄) = (((c : Thread nD τ).loc cc0_scratch3) ↦{fullShare} f) := owns_whole (c : Thread nD τ) cc0_scratch3 fullShare f

set_option maxHeartbeats 1600000 in
/-- The body, from the launch's resources to the closed cells and the staged result. -/
theorem sound_body :
    bodyPre m ρ c ⊢ runs c (cc0_body (F := F) a0 (Memref.isWhole_whole _) a1 (Memref.isWhole_whole _) a2 (Memref.isWhole_whole _) a3 (Memref.isWhole_whole _)
      a4 (Memref.isWhole_whole _) a5 (Memref.isWhole_whole _) a6 (Memref.isWhole_whole _) a7 (Memref.isWhole_whole _) a8 (Memref.isWhole_whole _) a9 (Memref.isWhole_whole _)
      cc0_scratch4 cc0_scratch5 cc0_scratch6 cc0_scratch7) (fun _ => bodyPost m ρ c) := by
  unfold bodyPre Φ₀ start scr
  iintro ⟨⟨⟨#HR, Hcr, Hat, Ht1, Ht2, Hd0, Hd1⟩, Hs0, ⟨%q, Hs1⟩, ⟨%f2, Hs2⟩, ⟨%f3, Hs3⟩⟩, Ho, ⟨%d0, H0⟩, ⟨%d1, H1⟩, ⟨%d2, H2⟩, ⟨%d3, H3⟩, ⟨%d4, H4⟩, ⟨%d5, H5⟩⟩
  rw [before_0, before_1, before_2, before_3, before_4]
  ihave Hs0 := (acc_split (F := F) c) $$ Hs0
  icases Hs0 with ⟨%V, P0, P1, P2, P3, P4, P5, P6, P7⟩
  ihave Hs1 := (Entails.of_eq (owns_scr1 (F := F) c q).symm) $$ Hs1
  ihave Hs2 := (Entails.of_eq (owns_scr2 (F := F) c f2).symm) $$ Hs2
  ihave Hs3 := (Entails.of_eq (owns_scr3 (F := F) c f3).symm) $$ Hs3
  ihave Hb0 := (buf_split (F := F) c false f2) $$ Hs2
  ihave Hb1 := (buf_split (F := F) c true f3) $$ Hs3
  unfold Dat.owesAt Pipeline.owesWithin
  icases Ho with ⟨%W, -, Ho⟩
  unfold runs
  iapply wp_fupd
  iapply (whole_wp (inp m) c V q) $$ [Hcr Hat Ht1 Ht2 Hd0 Hd1 Ho H0 H1 H2 H3 H4 H5 P0 P1 P2 P3 P4 P5 P6 P7 Hs1 Hb0 Hb1]
  · isplitr; · iexact HR
    isplitl [Ho]; · iexists W; iexact Ho
    isplitl [Hcr]; · iexact Hcr
    isplitl [Hat]; · iexact Hat
    isplitl [Ht1]; · iexact Ht1
    isplitl [Ht2]; · iexact Ht2
    isplitl [Hb0]; · iexact Hb0
    isplitl [Hb1]; · iexact Hb1
    isplitl [Hd0]; · iexact Hd0
    isplitl [Hd1]; · iexact Hd1
    isplitl [H0]; · iexact H0
    isplitl [H1]; · iexact H1
    isplitl [H2]; · iexact H2
    isplitl [H3]; · iexact H3
    isplitl [H4]; · iexact H4
    isplitl [Hs1]; · iexact Hs1
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    unfold outO
    iexists ((dats m ρ 0 c).before (5 : Fin 6) t₀ d5)
    isplitr [H5]
    · ipureintro; intro i hi; exact absurd hi (Finset.notMem_empty i)
    · iexact H5
  iintro ⟨Hat, Hd0, Hd1, Ho, H0, H1, H2, H3, H4, Hs1, P0, P1, P2, P3, P4, P5, P6, P7, B0, B1, B2, B3, H5⟩
  imod (close_dir c (sent (inp m)) false) $$ [Hd0] with Z0
  · isplitr; · iexact HR
    iexact Hd0
  imod (close_dir c (sent (inp m)) true) $$ [Hd1] with Z1
  · isplitr; · iexact HR
    iexact Hd1
  imod (close_bar c (sent (inp m))) $$ [Hat] with Z2
  · isplitr; · iexact HR
    iexact Hat
  imodintro
  unfold bodyPost Φ₁ scr zeros
  isplitl [P0 P1 P2 P3 P4 P5 P6 P7 B0 B1 B2 B3 Hs1 Z0 Z1 Z2]
  · isplitr [Z0 Z1 Z2]
    · isplitl [P0 P1 P2 P3 P4 P5 P6 P7]
      · iapply (acc_join (F := F) c _ _ _ _ _ _ _ _)
        isplitl [P0]; · iexact P0
        isplitl [P1]; · iexact P1
        isplitl [P2]; · iexact P2
        isplitl [P3]; · iexact P3
        isplitl [P4]; · iexact P4
        isplitl [P5]; · iexact P5
        isplitl [P6]; · iexact P6
        iexact P7
      isplitl [Hs1]
      · iexists _; iapply (Entails.of_eq (owns_scr1 (F := F) c _)); iexact Hs1
      isplitl [B0 B1]
      · ihave B := (buf_join (F := F) c false _ _) $$ [B0 B1]
        · isplitl [B0] <;> iassumption
        icases B with ⟨%f, B⟩
        iexists f; iapply (Entails.of_eq (owns_scr2 (F := F) c f)); iexact B
      · ihave B := (buf_join (F := F) c true _ _) $$ [B2 B3]
        · isplitl [B2] <;> iassumption
        icases B with ⟨%f, B⟩
        iexists f; iapply (Entails.of_eq (owns_scr3 (F := F) c f)); iexact B
    isplitl [Z0]; · iexact Z0
    isplitl [Z1]; · iexact Z1
    iexact Z2
  isplitl [Ho]
  · unfold Dat.owesAt Pipeline.owesWithin ow
    icases Ho with ⟨%W', Ho⟩
    iexists W'
    isplitr [Ho]
    · ipureintro; exact fun _ _ => Or.inl trivial
    · iexact Ho
  isplitl [H0]; · iexact H0
  isplitl [H1]; · iexact H1
  isplitl [H2]; · iexact H2
  isplitl [H3]; · iexact H3
  isplitl [H4]; · iexact H4
  iapply (out_done c (inp m)); iexact H5

set_option maxRecDepth 16384 in
/-- The library's obligation on core `c`. -/
theorem body_obligation : BodyObligation (dats (F := F) m ρ 0 c) (defs₀ (F := F)) 𝒱₀ 0 Set.univ := fun t => by
  rw [fin_N0 t]
  rw [bigSep_W, bigSep_W]
  exact sound_body m ρ c

end Cert.Moe
-- ==== Proof.Launch.lean ====
/-
# The launch
-/
module

public import proofs.«01_k».proof.Proof.Region
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The kernel's own semaphores: every cell's but the barrier's. -/
abbrev osem : (Bool × Bool × Bool) → SemLoc sig := fun k => ksem (some k)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective kcell := by
  rintro ⟨c, k⟩ ⟨c', k'⟩ h
  have h1 : c = c' := congrArg (fun g : GSem nD τ sig => g.1.1) h
  subst h1
  have h2 : k = k' := ksem_injective (congrArg Prod.snd h)
  subst h2; rfl

/-- All the exchange's cells. -/
def exCells : Finset (GSem nD τ sig) := Finset.univ.map ⟨kcell, kcell_injective⟩

/-- A device's cells' duties: its barrier's two; each step's on the send and on the receive side. -/
abbrev TokK : Type := Bool ⊕ (Bool × Bool × Fin 6)
abbrev tokOf (x : Dev nD × TokK) : GSem nD τ sig × ℕ × Bool := match x.2 with
  | .inl d => (barCell x.1, 0, d)
  | .inr (b, rv, s) => (cellX b rv s.val x.1, s.val / 2, false)

theorem tokOf_injective : Function.Injective tokOf := by
  rintro ⟨c, j⟩ ⟨c', j'⟩ h
  have h1 : c = c' := by
    have := congrArg (fun x : GSem nD τ sig × ℕ × Bool => x.1.1.1) h
    rcases j with d | ⟨b, rv, s⟩ <;> rcases j' with d' | ⟨b', rv', s'⟩ <;> exact this
  subst h1
  have hs : (tokOf (c, j)).1.2 = (tokOf (c, j')).1.2 := congrArg (fun x : GSem nD τ sig × ℕ × Bool => x.1.2) h
  have hr : (tokOf (c, j)).2 = (tokOf (c, j')).2 := congrArg Prod.snd h
  rcases j with d | ⟨b, rv, s⟩ <;> rcases j' with d' | ⟨b', rv', s'⟩
  · have : d = d' := congrArg Prod.snd hr
    subst this; rfl
  · exact absurd hs (fun e => by cases e)
  · exact absurd hs (fun e => by cases e)
  · have hk : (SemLoc.dma (semX b rv s.val) : SemLoc sig) = .dma (semX b' rv' s'.val) := hs
    rw [semX_eq, semX_eq] at hk
    have hk := Option.some.inj (ksem_injective hk)
    have e1 : b = b' := congrArg Prod.fst hk
    have e2 : rv = rv' := congrArg (fun x => x.2.1) hk
    have e3 : (s.val % 2 == 1) = (s'.val % 2 == 1) := congrArg (fun x => x.2.2) hk
    have e4 : s.val / 2 = s'.val / 2 := congrArg Prod.fst hr
    subst e1 e2
    have e5 : s = s' := (show ∀ s s' : Fin 6, (s.val % 2 == 1) = (s'.val % 2 == 1) → s.val / 2 = s'.val / 2 → s = s' by decide) s s' e3 e4
    subst e5; rfl

/-- Who pays a duty: the cell's owner its sends; a neighbour its barrier and its arrivals. -/
def dest : TokK → Dev nD → Dev nD
  | .inl false => up true
  | .inl true => up false
  | .inr (b, false, _) => id
  | .inr (b, true, _) => up b
def origin : TokK → Dev nD → Dev nD
  | .inl false => up false
  | .inl true => up true
  | .inr (b, false, _) => id
  | .inr (b, true, _) => up (!b)
theorem dest_origin (j : TokK) (c : Dev nD) : dest j (origin j c) = c := by
  rcases j with d | ⟨b, rv, s⟩
  · cases d
    · exact up_up true c
    · exact up_up false c
  · cases rv
    · rfl
    · exact up_up b c
theorem origin_dest (j : TokK) (c : Dev nD) : origin j (dest j c) = c := by
  rcases j with d | ⟨b, rv, s⟩
  · cases d
    · exact up_up' true c
    · exact up_up' false c
  · cases rv
    · rfl
    · exact up_up' b c

/-- The duties told by their payers. -/
def around : Dev nD × TokK ≃ Dev nD × TokK where
  toFun x := (dest x.2 x.1, x.2)
  invFun x := (origin x.2 x.1, x.2)
  left_inv x := by show (origin x.2 (dest x.2 x.1), x.2) = x; rw [origin_dest]
  right_inv x := by show (dest x.2 (origin x.2 x.1), x.2) = x; rw [dest_origin]

def exToks : Finset (GSem nD τ sig × ℕ × Bool) := Finset.univ.map ⟨tokOf, tokOf_injective⟩

def u₀ : UU := (initOf (Pipeline.cells cfgs cellOf_inj) (Pipeline.launchToks cfgs cellOf_inj), initOf exCells exToks)

abbrev tok (x : Dev nD × TokK) : sProp 𝕄 := dutyTok ER (tokOf x).1 (tokOf x).2.1 (tokOf x).2.2

abbrev SV : Bool → ℕ → Dev nD → V4 F := sent (inp m)

/-- What the launch gives device `c`: its cells' states, its place on each, its cells' duties. -/
def G (c : Dev nD) : sProp 𝕄 :=
  iprop((bigSep Finset.univ fun k : Kind' => roundState ER (Rd (SV m)) (kcell (c, k)) 0)
    ∗ (bigSep Finset.univ fun k : Kind' => iprop(atPos ER (kcell (c, k)) 0 ∅ 0 ∗ reached ER (kcell (c, k)) 0))
    ∗ bigSep Finset.univ fun j : TokK => tok (F := F) (c, j))

/-- The cells' invariants and that each has reached round 0. -/
def kept (K : Dev nD × Kind' → ℕ) : sProp 𝕄 :=
  bigSep Finset.univ fun x : Dev nD × Kind' => iprop(cellInv ER (Rd (SV m)) (K x) (kcell x) ∗ reached ER (kcell x) 0)

instance kept_persistent (K : Dev nD × Kind' → ℕ) : BI.Persistent (kept m K) := by unfold kept; infer_instance

/-- Device `c`'s places, and the duties it pays. -/
def mine (c : Dev nD) : sProp 𝕄 :=
  iprop((bigSep Finset.univ fun k : Kind' => atPos ER (kcell (c, k)) 0 ∅ 0) ∗ bigSep Finset.univ fun j : TokK => tok (F := F) (dest j c, j))

/-- What it has after the cells are shared. -/
def G' (c : Dev nD) : sProp 𝕄 := iprop((∃ K, kept m K) ∗ mine (F := F) c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Kind' => Φ (kcell (c, k)) := by
    unfold exCells; rw [bigSep_map, bigSep_univ_prod]; rfl
  have hT : bigSep exToks (fun x => (dutyTok ER x.1 x.2.1 x.2.2 : sProp 𝕄)) = bigSep Finset.univ fun c : Dev nD => bigSep Finset.univ fun j : TokK => tok (F := F) (c, j) := by
    unfold exToks; rw [bigSep_map, bigSep_univ_prod]; rfl
  iintro HX
  imod (Rounds.fund ER (Rd (SV m)) exCells exToks) $$ HX with ⟨Hst, Hr, Hat, Htok⟩
  imodintro
  ihave Hst := (Entails.of_eq (hX fun g => roundState ER (Rd (SV m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem kinds (Φ : Kind' → sProp 𝕄) : bigSep Finset.univ Φ = iprop(Φ (none) ∗ Φ (some (false, false, false)) ∗ Φ (some (false, false, true)) ∗ Φ (some (false, true, false)) ∗ Φ (some (false, true, true)) ∗ Φ (some (true, false, false)) ∗ Φ (some (true, false, true)) ∗ Φ (some (true, true, false)) ∗ Φ (some (true, true, true))) :=
  bigSep_univ_eq_bigSepL [none, some (false, false, false), some (false, false, true), some (false, true, false), some (false, true, true), some (true, false, false), some (true, false, true), some (true, true, false), some (true, true, true)] (by decide) (by decide) Φ

theorem ownSems0_eq (c : Dev nD) : (Pipeline.ownSems0 (Ix := ℕ) (Name := ℕ) (U := UU) (Lvl := ℕ) (Val := Elt F) (τ := τ) osem c : sProp 𝕄)
    = iprop(semVal (kcell (c, some (false, false, false))) 0 ∗ semVal (kcell (c, some (false, false, true))) 0 ∗ semVal (kcell (c, some (false, true, false))) 0 ∗ semVal (kcell (c, some (false, true, true))) 0 ∗ semVal (kcell (c, some (true, false, false))) 0 ∗ semVal (kcell (c, some (true, false, true))) 0 ∗ semVal (kcell (c, some (true, true, false))) 0 ∗ semVal (kcell (c, some (true, true, true))) 0) := by
  rw [Pipeline.ownSems0_eq_of_list c osem [(false, false, false), (false, false, true), (false, true, false), (false, true, true), (true, false, false), (true, false, true), (true, true, false), (true, true, true)] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Kind' => semVal (kcell (c, k)) 0 : sProp 𝕄) := by
  rw [ownSems0_eq, unscopedSems0_eq, kinds]
  iintro ⟨H, HB⟩
  isplitl [HB]; · iexact HB
  iexact H

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Kind' => iprop(∃ κ : ℕ, cellInv ER (Rd (SV m)) κ (kcell (c, k))))
          ∗ (bigSep Finset.univ fun k : Kind' => iprop(atPos ER (kcell (c, k)) 0 ∅ 0 ∗ reached ER (kcell (c, k)) 0)) ∗ bigSep Finset.univ fun j : TokK => tok (F := F) (c, j)) := by
  unfold G
  iintro ⟨Hos, Hus, Hst, Hat, Htok⟩
  ihave Hv := (sems0_eq (F := F) c) $$ [Hos Hus]
  · isplitl [Hos] <;> iassumption
  imod (show iprop((bigSep Finset.univ fun k : Kind' => semVal (kcell (c, k)) 0) ∗ bigSep Finset.univ fun k : Kind' => roundState ER (Rd (SV m)) (kcell (c, k)) 0)
      ⊢ (|={Set.univ}=> bigSep Finset.univ fun k => iprop(∃ κ : ℕ, cellInv ER (Rd (SV m)) κ (kcell (c, k))) : sProp 𝕄) from by
        rw [← bigSep_sep']
        exact (bigSep_mono fun k _ => (Rounds.body_intro ER (Rd (SV m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties dealt to their payers. -/
theorem toks_around : (bigSep Finset.univ fun c : Dev nD => bigSep Finset.univ fun j : TokK => ((tok (F := F) (c, j)) : sProp 𝕄))
    = bigSep Finset.univ fun c : Dev nD => bigSep Finset.univ fun j : TokK => (tok (F := F) (dest j c, j) : sProp 𝕄) := by
  rw [← bigSep_univ_prod (fun x : Dev nD × TokK => tok (F := F) x), bigSep_univ_equiv around (fun x : Dev nD × TokK => tok (F := F) x),
    bigSep_univ_prod (fun x : Dev nD × TokK => tok (F := F) (around x))]
  rfl

theorem deal (K : Dev nD × Kind' → ℕ) : iprop(kept m K ∗ bigSep Finset.univ fun c : Dev nD => mine (F := F) c) ⊢ bigSep Finset.univ (G' m) := by
  refine (sep_mono_left (BI.bigSep_of_persistent (Finset.univ : Finset (Dev nD)) (kept m K))).trans ?_
  rw [← bigSep_sep']
  refine bigSep_mono fun c _ => ?_
  show (iprop(kept m K ∗ mine (F := F) c) : sProp 𝕄) ⊢ iprop((∃ K, kept m K) ∗ mine (F := F) c)
  iintro ⟨#HK, H⟩
  isplitr
  · iexists K; iexact HK
  iexact H

theorem regroup :
    (bigSep Finset.univ fun c : Dev nD => iprop((bigSep Finset.univ fun k : Kind' => iprop(∃ κ : ℕ, cellInv ER (Rd (SV m)) κ (kcell (c, k))))
          ∗ (bigSep Finset.univ fun k : Kind' => iprop(atPos ER (kcell (c, k)) 0 ∅ 0 ∗ reached ER (kcell (c, k)) 0)) ∗ bigSep Finset.univ fun j : TokK => tok (F := F) (c, j)) : sProp 𝕄)
      ⊢ bigSep Finset.univ (G' m) := by
  rw [bigSep_sep', bigSep_sep', ← bigSep_univ_prod (fun x : Dev nD × Kind' => iprop(∃ κ : ℕ, cellInv ER (Rd (SV m)) κ (kcell x))),
    bigSep_congr (s := Finset.univ) (fun (c : Dev nD) _ => bigSep_sep' Finset.univ (fun k : Kind' => (atPos ER (kcell (c, k)) 0 ∅ 0 : sProp 𝕄)) (fun k => reached ER (kcell (c, k)) 0)),
    bigSep_sep', ← bigSep_univ_prod (fun x : Dev nD × Kind' => (reached ER (kcell x) 0 : sProp 𝕄)), toks_around]
  iintro ⟨HI, ⟨Hat, HR⟩, Htok⟩
  ihave HK := (BI.bigSep_exists_pi Finset.univ (fun (x : Dev nD × Kind') (κ : ℕ) => (cellInv ER (Rd (SV m)) κ (kcell x) : sProp 𝕄))) $$ HI
  icases HK with ⟨%K, HI⟩
  iapply (deal m K)
  isplitl [HI HR]
  · unfold kept; rw [bigSep_sep']
    isplitl [HI] <;> iassumption
  · unfold mine; rw [bigSep_sep']
    isplitl [Hat] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- The credit of the transfers of `l`, as its receiver has it. -/
def crL (c : Dev nD) : List (Bool × ℕ) → sProp 𝕄
  | [] => iprop(emp)
  | x :: l => iprop(crL c l ∗ cred (tallyAt (cellX x.1 true x.2 c) x.2 N))

theorem launch_debt (c : Dev nD) : ∀ l : List (Bool × ℕ), (Pipeline.launchCred (fun d => debt d l) c : sProp 𝕄) ⊢ crL (F := F) c l
  | [] => by
    show (Pipeline.launchCred (fun _ : Dev nD => (0 : CellTallies nD τ sig ℕ)) c : sProp 𝕄) ⊢ iprop(emp)
    rw [Pipeline.launchCred_zero]
  | x :: l => by
    have h1 := launch_debt c l
    have h2 := Pipeline.launchCred_tallyAt (Name := ℕ) (U := UU) (Lvl := ℕ) (Val := Elt F) (τ := τ) (SemLoc.dma (semX x.1 true x.2)) (up x.1) (up (!x.1)) (up_up x.1) (up_up' x.1) x.2 N c
    show (Pipeline.launchCred (fun d => debt d l + tallyAt (cellX x.1 true x.2 (up x.1 d)) x.2 N) c : sProp 𝕄) ⊢ iprop(crL c l ∗ cred (tallyAt (cellX x.1 true x.2 c) x.2 N))
    rw [Pipeline.launchCred_add (fun d => debt d l)]
    iintro ⟨A, B⟩
    isplitl [A]
    · iapply h1; iexact A
    · iapply h2; iexact B

theorem creds (c : Dev nD) :
    (Pipeline.launchCred O₀ c : sProp 𝕄) ⊢ iprop(cred (tallyAt (barCell c) 0 2) ∗ crd false c (from' 0) ∗ crd true c (from' 0)) := by
  have h1 := launch_debt (F := F) c (rem 0)
  have h2 := Pipeline.launchCred_tallyAt (Name := ℕ) (U := UU) (Lvl := ℕ) (Val := Elt F) (τ := τ) (SemLoc.reg barS : SemLoc sig) (up false) (up true) (up_up false) (up_up' false) 0 1 c
  have h3 := Pipeline.launchCred_tallyAt (Name := ℕ) (U := UU) (Lvl := ℕ) (Val := Elt F) (τ := τ) (SemLoc.reg barS : SemLoc sig) (up true) (up false) (up_up true) (up_up' true) 0 1 c
  have h4 : (iprop(cred (tallyAt (barCell c) 0 1) ∗ cred (tallyAt (barCell c) 0 1)) : sProp 𝕄) ⊢ cred (tallyAt (barCell c) 0 2) :=
    (cred_add _ _).2.trans (Entails.of_eq (by unfold tallyAt; rw [← tallyOn_add, ← Finsupp.single_add]))
  show (Pipeline.launchCred (fun d => (debt d (rem 0) + tallyAt (barCell (up false d)) 0 1) + tallyAt (barCell (up true d)) 0 1) c : sProp 𝕄) ⊢ _
  rw [Pipeline.launchCred_add (fun d => debt d (rem 0) + tallyAt (barCell (up false d)) 0 1), Pipeline.launchCred_add (fun d => debt d (rem 0))]
  iintro ⟨⟨A, B⟩, C⟩
  ihave A := h1 $$ A
  ihave B := h2 $$ B
  ihave C := h3 $$ C
  isplitl [B C]
  · iapply h4; isplitl [B] <;> iassumption
  iapply (show (crL (F := F) c (rem 0)) ⊢ (iprop(crd false c (from' 0) ∗ crd true c (from' 0)) : sProp 𝕄) from by
    show crL (F := F) c [(false, 0), (true, 0), (false, 1), (true, 1), (false, 2), (true, 2), (false, 3), (true, 3), (false, 4), (true, 4), (false, 5), (true, 5)] ⊢ iprop(crd false c [0, 1, 2, 3, 4, 5] ∗ crd true c [0, 1, 2, 3, 4, 5])
    simp only [crL, crd]
    iintro ⟨⟨⟨⟨⟨⟨⟨⟨⟨⟨⟨⟨-, t5⟩, f5⟩, t4⟩, f4⟩, t3⟩, f3⟩, t2⟩, f2⟩, t1⟩, f1⟩, t0⟩, f0⟩
    isplitl [f0 f1 f2 f3 f4 f5]
    · isplitl [f0]; · iexact f0
      isplitl [f1]; · iexact f1
      isplitl [f2]; · iexact f2
      isplitl [f3]; · iexact f3
      isplitl [f4]; · iexact f4
      isplitl [f5]; · iexact f5
      iempintro
    · isplitl [t0]; · iexact t0
      isplitl [t1]; · iexact t1
      isplitl [t2]; · iexact t2
      isplitl [t3]; · iexact t3
      isplitl [t4]; · iexact t4
      isplitl [t5]; · iexact t5
      iempintro)
  iexact A

/-! ## The theorem's side conditions -/

theorem tok_kinds (Φ : TokK → sProp 𝕄) : bigSep Finset.univ Φ = iprop(Φ (Sum.inl false) ∗ Φ (Sum.inl true) ∗ Φ (Sum.inr (false, false, 0)) ∗ Φ (Sum.inr (false, true, 0)) ∗ Φ (Sum.inr (false, false, 1)) ∗ Φ (Sum.inr (false, true, 1)) ∗ Φ (Sum.inr (false, false, 2)) ∗ Φ (Sum.inr (false, true, 2)) ∗ Φ (Sum.inr (false, false, 3)) ∗ Φ (Sum.inr (false, true, 3)) ∗ Φ (Sum.inr (false, false, 4)) ∗ Φ (Sum.inr (false, true, 4)) ∗ Φ (Sum.inr (false, false, 5)) ∗ Φ (Sum.inr (false, true, 5)) ∗ Φ (Sum.inr (true, false, 0)) ∗ Φ (Sum.inr (true, true, 0)) ∗ Φ (Sum.inr (true, false, 1)) ∗ Φ (Sum.inr (true, true, 1)) ∗ Φ (Sum.inr (true, false, 2)) ∗ Φ (Sum.inr (true, true, 2)) ∗ Φ (Sum.inr (true, false, 3)) ∗ Φ (Sum.inr (true, true, 3)) ∗ Φ (Sum.inr (true, false, 4)) ∗ Φ (Sum.inr (true, true, 4)) ∗ Φ (Sum.inr (true, false, 5)) ∗ Φ (Sum.inr (true, true, 5))) :=
  bigSep_univ_eq_bigSepL [Sum.inl false, Sum.inl true, Sum.inr (false, false, 0), Sum.inr (false, true, 0), Sum.inr (false, false, 1), Sum.inr (false, true, 1), Sum.inr (false, false, 2), Sum.inr (false, true, 2), Sum.inr (false, false, 3), Sum.inr (false, true, 3), Sum.inr (false, false, 4), Sum.inr (false, true, 4), Sum.inr (false, false, 5), Sum.inr (false, true, 5), Sum.inr (true, false, 0), Sum.inr (true, true, 0), Sum.inr (true, false, 1), Sum.inr (true, true, 1), Sum.inr (true, false, 2), Sum.inr (true, true, 2), Sum.inr (true, false, 3), Sum.inr (true, true, 3), Sum.inr (true, false, 4), Sum.inr (true, true, 4), Sum.inr (true, false, 5), Sum.inr (true, true, 5)] (by decide) (by decide) Φ

theorem toks_list (c : Dev nD) : (bigSep Finset.univ fun j : TokK => (tok (F := F) (dest j c, j) : sProp 𝕄))
    ⊢ iprop(dutyTok ER (barCell (up true c)) 0 false ∗ dutyTok ER (barCell (up false c)) 0 true ∗ tks false c (from' 0) ∗ tks true c (from' 0)) := by
  rw [tok_kinds]
  show _ ⊢ iprop(_ ∗ _ ∗ tks false c [0, 1, 2, 3, 4, 5] ∗ tks true c [0, 1, 2, 3, 4, 5])
  simp only [tks]
  iintro ⟨T0, T1, T2, T3, T4, T5, T6, T7, T8, T9, T10, T11, T12, T13, T14, T15, T16, T17, T18, T19, T20, T21, T22, T23, T24, T25⟩
  isplitl [T0]; · iexact T0
  isplitl [T1]; · iexact T1
  isplitl [T2 T3 T4 T5 T6 T7 T8 T9 T10 T11 T12 T13]
  · isplitl [T2 T3]
    · isplitl [T2]; · iexact T2
      iexact T3
    isplitl [T4 T5]
    · isplitl [T4]; · iexact T4
      iexact T5
    isplitl [T6 T7]
    · isplitl [T6]; · iexact T6
      iexact T7
    isplitl [T8 T9]
    · isplitl [T8]; · iexact T8
      iexact T9
    isplitl [T10 T11]
    · isplitl [T10]; · iexact T10
      iexact T11
    isplitl [T12 T13]
    · isplitl [T12]; · iexact T12
      iexact T13
    iempintro
  · isplitl [T14 T15]
    · isplitl [T14]; · iexact T14
      iexact T15
    isplitl [T16 T17]
    · isplitl [T16]; · iexact T16
      iexact T17
    isplitl [T18 T19]
    · isplitl [T18]; · iexact T18
      iexact T19
    isplitl [T20 T21]
    · isplitl [T20]; · iexact T20
      iexact T21
    isplitl [T22 T23]
    · isplitl [T22]; · iexact T22
      iexact T23
    isplitl [T24 T25]
    · isplitl [T24]; · iexact T24
      iexact T25
    iempintro

theorem at_list (c : Dev nD) (I : Inp F) : iprop(rec' I ∗ bigSep Finset.univ fun k : Kind' => (atPos ER (kcell (c, k)) 0 ∅ 0 : sProp 𝕄))
    ⊢ iprop(atPos ER (barCell c) 0 ∅ 0 ∗ (posX false false 0 c ∗ posX false true 0 c) ∗ posX true false 0 c ∗ posX true true 0 c) := by
  have hr (b rv sl : Bool) := recs_reached (sent I) (c, some (b, rv, sl))
  rw [kinds]
  iintro ⟨#HR, HB, A0, A1, A2, A3, A4, A5, A6, A7⟩
  isplitl [HB]; · iexact HB
  unfold posX atX
  isplitl [A0 A1 A2 A3]
  · isplitl [A0 A1]
    · isplitl [A0]
      · isplitl [A0]; · iexact A0
        iapply (hr false false false); iexact HR
      · isplitl [A1]; · iexact A1
        iapply (hr false false true); iexact HR
    · isplitl [A2]
      · isplitl [A2]; · iexact A2
        iapply (hr false true false); iexact HR
      · isplitl [A3]; · iexact A3
        iapply (hr false true true); iexact HR
  · isplitl [A4 A5]
    · isplitl [A4]
      · isplitl [A4]; · iexact A4
        iapply (hr true false false); iexact HR
      · isplitl [A5]; · iexact A5
        iapply (hr true false true); iexact HR
    · isplitl [A6]
      · isplitl [A6]; · iexact A6
        iapply (hr true true false); iexact HR
      · isplitl [A7]; · iexact A7
        iapply (hr true true true); iexact HR

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' mine kept
  iintro ⟨-, Hlev, Hcr, -, ⟨⟨%K, HK⟩, Hat, Htok⟩⟩
  ihave HR := (show iprop((bigSep Finset.univ fun x : Dev nD × Kind' => iprop(cellInv ER (Rd (SV m)) (K x) (kcell x) ∗ reached ER (kcell x) 0)) ∗ levAts L lv) ⊢ (rec' (inp m) : sProp 𝕄) from by
    unfold rec' recs recsAt; iintro H; iexists K; iexact H) $$ [HK Hlev]
  · isplitl [HK] <;> iassumption
  icases HR with #HR
  ihave Hc := (creds (F := F) c) $$ Hcr
  icases Hc with ⟨H1, HF, HT⟩
  ihave Ht := (toks_list (F := F) c) $$ Htok
  icases Ht with ⟨T0, T1, TF, TT⟩
  ihave Ha := (at_list c (inp m)) $$ [Hat]
  · isplitr; · iexact HR
    iexact Hat
  icases Ha with ⟨AB, ⟨AF, AF'⟩, AT, AT'⟩
  imodintro
  isplitl
  · unfold start dirS
    isplitr; · iexact HR
    isplitl [H1]; · iexact H1
    isplitl [AB]; · iexact AB
    isplitl [T0]; · iexact T0
    isplitl [T1]; · iexact T1
    isplitl [TF HF AF AF']
    · isplitl [TF]; · iexact TF
      isplitl [HF]; · iexact HF
      isplitl [AF] <;> iassumption
    · isplitl [TT]; · iexact TT
      isplitl [HT]; · iexact HT
      isplitl [AT] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scr zeros
  iintro ⟨Hr, ⟨⟨A0, A1⟩, A2, A3⟩, ⟨⟨A4, A5⟩, A6, A7⟩, HzB⟩
  isplitl [HzB]; · iexact HzB
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iexact Hr

theorem O₀_pos {c : Dev nD} {g : GSem nD τ sig} {i : ℕ} (h : 0 < O₀ c g i) :
    (∃ x ∈ rem 0, g = cellX x.1 true x.2 (up x.1 c) ∧ i = x.2) ∨ (∃ b, g = barCell (up b c) ∧ i = 0) := by
  unfold O₀ O₁ at h
  rw [Pi.add_apply, Finsupp.add_apply, Pi.add_apply, Finsupp.add_apply, tallyAt_apply, tallyAt_apply] at h
  by_cases h1 : g = barCell (up false c) ∧ i = 0
  · exact Or.inr ⟨false, h1⟩
  by_cases h2 : g = barCell (up true c) ∧ i = 0
  · exact Or.inr ⟨true, h2⟩
  rw [if_neg h1, if_neg h2, Nat.add_zero] at h
  exact Or.inl (debt_pos h)

/-- The staging cells are below everything owed. -/
theorem mayWait_stage (c : Dev nD) (q : DmaSem sig) (hq : kd (.dma q) = none) (O : CellTallies nD τ sig ℕ) (hO : O = O₀ c ∨ O = 0) :
    (levAts L lv : sProp 𝕄) ⊢ MayWait (c : Thread nD τ) (.dma q) 0 O := by
  rcases hO with rfl | rfl
  · have hr : ∀ x ∈ rem 0, x.2 < 6 := by decide
    refine MayOwe.of_cut (L := L) (lev := lv) 0 (fun p hp => by rw [Finset.mem_singleton.mp hp]; exact mem_L c _ (show (0 : ℕ) < 6 by decide))
      (fun g u hg => ?_) (fun p hp => by rw [Finset.mem_singleton.mp hp]; unfold lv; rw [hq]) (fun g u hg => ?_)
    · rcases O₀_pos hg with ⟨x, hx, rfl, rfl⟩ | ⟨b, rfl, rfl⟩
      · exact mem_L _ _ (hr x hx)
      · exact mem_L _ _ (by decide)
    · rcases O₀_pos hg with ⟨x, hx, rfl, rfl⟩ | ⟨b, rfl, rfl⟩
      · rw [lv_recv]; exact Nat.succ_pos _
      · rw [lv_bar]; exact Nat.one_pos
  · rw [MayWait_zero]; iintro -; iempintro

theorem kd_none (sm : SemLoc sig) (h : ∀ k, ksem k ≠ sm) : kd sm = none := by
  unfold kd Function.partialInv; exact dif_neg fun ⟨k, hk⟩ => h k hk

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (kd_none _ (by fin_cases w <;> fin_cases s <;> decide)) _ (by
      rcases t with ⟨_ | _, ht⟩
      · exact Or.inl rfl
      · exact Or.inr rfl)

/-! ## The run -/

/-- Every window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with its counters at zero every weakly fair run of the program ends, with every window's array at its computed
    contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe
-- ==== Proof.Final.lean ====
/-
# The arrays at the end
-/
module

public import proofs.«01_k».proof.Proof.Launch

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-- The arguments hold what they held. -/
theorem final_0 : finalA m ρ c (0 : Fin 6) = m ((c : Thread nD τ).loc main_arg0) := (dats (F := F) m ρ 0 c).arrAt_in (0 : Fin 6) rfl _
theorem final_1 : finalA m ρ c (1 : Fin 6) = m ((c : Thread nD τ).loc main_arg1) := (dats (F := F) m ρ 0 c).arrAt_in (1 : Fin 6) rfl _
theorem final_2 : finalA m ρ c (2 : Fin 6) = m ((c : Thread nD τ).loc main_arg2) := (dats (F := F) m ρ 0 c).arrAt_in (2 : Fin 6) rfl _
theorem final_3 : finalA m ρ c (3 : Fin 6) = m ((c : Thread nD τ).loc main_arg3) := (dats (F := F) m ρ 0 c).arrAt_in (3 : Fin 6) rfl _
theorem final_4 : finalA m ρ c (4 : Fin 6) = m ((c : Thread nD τ).loc main_arg4) := (dats (F := F) m ρ 0 c).arrAt_in (4 : Fin 6) rfl _

/-- The result's one block is the whole array. -/
theorem final_5 : finalA m ρ c (5 : Fin 6) = out (inp m) c := by
  have hz : (fun a => (win0_5.index (0 : Fin 1)) a * main_v1.ty.shape.size a) = fun _ => 0 := funext fun a => by fin_cases a <;> decide
  have hr := fun f => Memref.read_access_unit_zero (Elt F) main_v1 hz (fun a => by fin_cases a <;> decide) f
  have h : (win0_5.blk (0 : Fin 1)).view.read (Elt F) (finalA m ρ c (5 : Fin 6)) = out (inp m) c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (hr _).symm.trans h

/-- What the windows stage of the arguments are the arguments. -/
theorem inp_x : (inp m).x c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem inp_rw : (inp m).rw c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem inp_ix : (inp m).ix c = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _
theorem inp_ew : (inp m).ew c = m ((c : Thread nD τ).loc main_arg3) := by
  have hz : (fun a => (win0_3.index (0 : Fin 1)) a * main_arg3.ty.shape.size a) = fun _ => 0 := funext fun a => by fin_cases a <;> decide
  exact Memref.read_access_unit_zero (Elt F) main_arg3 hz (fun a => by fin_cases a <;> decide) _
theorem inp_sw : (inp m).sw c = m ((c : Thread nD τ).loc main_arg4) := by
  have hz : (fun a => (win0_4.index (0 : Fin 1)) a * main_arg4.ty.shape.size a) = fun _ => 0 := funext fun a => by fin_cases a <;> decide
  exact Memref.read_access_unit_zero (Elt F) main_arg4 hz (fun a => by fin_cases a <;> decide) _

/-- Every run ends with the result, the arguments as they were, the counters at zero. -/
theorem run_out : θ_run defs (onTc (τ := τ) (main (F := F))) (s₀ m ρ) (fun r => (∀ c : Dev nD,
      r.2.mem ((c : Thread nD τ).loc main_v1) = out (inp m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c (5 : Fin 6)).trans (final_5 m ρ c), (h.1 c (0 : Fin 6)).trans (final_0 m ρ c),
    (h.1 c (1 : Fin 6)).trans (final_1 m ρ c), (h.1 c (2 : Fin 6)).trans (final_2 m ρ c), (h.1 c (3 : Fin 6)).trans (final_3 m ρ c),
    (h.1 c (4 : Fin 6)).trans (final_4 m ρ c)⟩, h.2⟩) (run_main m ρ)

end Cert.Moe
-- ==== Proof.Sums.lean ====
/-
# The mathematics of one token's row

Over the extended reals, apart from any program: a row's softmax, and why the sum over all the experts, each weighted by a
coefficient that is zero off the token's own expert, is that expert's product times the token's probability.
-/
module

public import Idealize.ShloMosaic.PureOps.Ideal.Laws
public import Mathlib.Algebra.BigOperators.Fin

@[expose] public section

noncomputable section

open scoped BigOperators

namespace Cert.Moe

open Idealize.ShloMosaic

/-- The largest of a token's sixteen scores. -/
def top (s : Fin 16 → EReal) : EReal := (Finset.univ : Finset (Fin 16)).fold max ⊥ s

/-- The softmax of a token's scores at one expert. -/
def soft (s : Fin 16 → EReal) (e : Fin 16) : EReal := Ideal.div (Ideal.exp (s e - top s)) (∑ j, Ideal.exp (s j - top s))

/-- A value that is neither infinity is a real number. -/
theorem real_of {x : EReal} (h : x ≠ ⊤) (h' : x ≠ ⊥) : ∃ r : ℝ, x = r := ⟨x.toReal, (EReal.coe_toReal h h').symm⟩

/-- A finite sum of real numbers is a real number. -/
theorem real_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The largest of sixteen real scores is a real number. -/
theorem top_real (f : Fin 16 → ℝ) : ∃ t : ℝ, top (fun e => (f e : EReal)) = t := by
  refine real_of (ne_of_lt ?_) (ne_of_gt ?_)
  · exact (Finset.fold_max_lt _).2 ⟨bot_lt_top, fun e _ => EReal.coe_lt_top _⟩
  · exact (Finset.lt_fold_max _).2 (Or.inr ⟨0, Finset.mem_univ _, EReal.bot_lt_coe _⟩)

/-- The softmax of real scores is a real number, and not a negative one. -/
theorem soft_real (f : Fin 16 → ℝ) (e : Fin 16) : ∃ p : ℝ, 0 ≤ p ∧ soft (fun e => (f e : EReal)) e = p := by
  obtain ⟨t, ht⟩ := top_real f
  have hs : ∑ j, Ideal.exp ((f j : EReal) - t) = ((∑ j, Real.exp (f j - t) : ℝ) : EReal) := by
    rw [← real_sum]
    exact Finset.sum_congr rfl fun j _ => by rw [← EReal.coe_sub]; rfl
  have hp : 0 < ∑ j, Real.exp (f j - t) := Finset.sum_pos (fun j _ => Real.exp_pos _) ⟨0, Finset.mem_univ _⟩
  refine ⟨Real.exp (f e - t) * (∑ j, Real.exp (f j - t))⁻¹, mul_nonneg (Real.exp_pos _).le (inv_nonneg.2 hp.le), ?_⟩
  unfold soft
  rw [ht, hs, ← EReal.coe_sub]
  show Ideal.div ((Real.exp (f e - t) : ℝ) : EReal) _ = _
  unfold Ideal.div
  rw [if_neg (by exact_mod_cast hp.ne'), EReal.coe_mul, EReal.coe_inv]

/-- A number that is real and not negative moves out of a sum of products, whatever the products. -/
theorem scaled {n : ℕ} (p : ℝ) (hp : 0 ≤ p) (x w : Fin n → EReal) : ∑ d, x d * p * w d = p * ∑ d, x d * w d := by
  have h : ∀ s : Finset (Fin n), ∑ d ∈ s, x d * p * w d = p * ∑ d ∈ s, x d * w d := by
    intro s
    classical
    induction s using Finset.induction_on with
    | empty => simp
    | insert a s ha ih =>
      rw [Finset.sum_insert ha, Finset.sum_insert ha, ih,
        EReal.left_distrib_of_nonneg_of_ne_top (by exact_mod_cast hp) (EReal.coe_ne_top p), ← mul_assoc, mul_comm (x a) (p : EReal)]
  exact h Finset.univ

set_option backward.proofsInPublic true in
/-- Which of the sixteen experts is a device's own numbered `e`. -/
def at16 (c e : Fin 4) : Fin 16 := ⟨4 * c.val + e.val, by omega⟩

/-- The sixteen experts are four on each of four devices. -/
theorem by_fours (T : Fin 16 → EReal) :
    ∑ c : Fin 4, (T (at16 c 0) + T (at16 c 1) + T (at16 c 2) + T (at16 c 3)) = ∑ j, T j := by
  have h : ∑ c : Fin 4, ∑ e : Fin 4, T (at16 c e) = ∑ j, T j := by
    rw [← Fintype.sum_prod_type']
    refine Fintype.sum_bijective (fun p : Fin 4 × Fin 4 => at16 p.1 p.2) ?_ _ _ (fun _ => rfl)
    refine (Fintype.bijective_iff_injective_and_card _).2 ⟨?_, by simp⟩
    rintro ⟨a, b⟩ ⟨c, d⟩ e
    have e' : 4 * a.val + b.val = 4 * c.val + d.val := congrArg Fin.val e
    exact Prod.ext (Fin.ext (by show a.val = c.val; omega)) (Fin.ext (by show b.val = d.val; omega))
  rw [← h]
  exact Finset.sum_congr rfl fun c _ => (Fin.sum_univ_four fun e => T (at16 c e)).symm

/-- A token's row through one expert, each entry first scaled by a coefficient. -/
def through {n : ℕ} (x w : Fin n → EReal) (q : EReal) : EReal := ∑ d, x d * q * w d

/-- An expert whose coefficient is zero gives nothing, whatever its weights. -/
theorem through_zero {n : ℕ} (x w : Fin n → EReal) : through x w 0 = 0 := by simp [through]

/-- All experts' contributions together, the coefficients zero off expert `i`: that expert's product times the probability. -/
theorem pick {n : ℕ} (i : Fin 16) (p : ℝ) (hp : 0 ≤ p) (x : Fin n → EReal) (W : Fin 16 → Fin n → EReal) :
    ∑ c : Fin 4, (through x (W (at16 c 0)) (if i = at16 c 0 then (p : EReal) else 0) + through x (W (at16 c 1)) (if i = at16 c 1 then (p : EReal) else 0)
      + through x (W (at16 c 2)) (if i = at16 c 2 then (p : EReal) else 0) + through x (W (at16 c 3)) (if i = at16 c 3 then (p : EReal) else 0))
      = p * ∑ d, x d * W i d := by
  rw [by_fours (fun j => through x (W j) (if i = j then (p : EReal) else 0)), ← scaled p hp]
  rw [Finset.sum_eq_single i (fun j _ hj => by rw [if_neg (Ne.symm hj), through_zero]) (fun h => absurd (Finset.mem_univ _) h), if_pos rfl]
  rfl

/-- A token's scores: its row times each column of the router's matrix. -/
def score (x : Fin 512 → EReal) (R : Fin 512 → Fin 16 → EReal) (e : Fin 16) : EReal := ∑ k, x k * R k e

/-- What one token's entry of the result is: the shared expert's product, and its own expert's product times its probability. -/
def token (x : Fin 512 → EReal) (R : Fin 512 → Fin 16 → EReal) (i : Fin 16) (W : Fin 16 → Fin 512 → EReal) (S : Fin 512 → EReal) : EReal :=
  ∑ k, x k * S k + soft (score x R) i * ∑ k, x k * W i k

/-- Of real rows and a real router, the probabilities are real numbers, none negative. -/
theorem soft_score_real (x : Fin 512 → EReal) (R : Fin 512 → Fin 16 → EReal) (hx : ∀ k, ∃ r : ℝ, x k = r) (hR : ∀ k e, ∃ r : ℝ, R k e = r)
    (i : Fin 16) : ∃ p : ℝ, 0 ≤ p ∧ soft (score x R) i = p := by
  choose f hf using hx
  choose g hg using hR
  have h : score x R = fun e => ((∑ k, f k * g k e : ℝ) : EReal) := funext fun e => by
    rw [← real_sum]
    exact Finset.sum_congr rfl fun k _ => by rw [hf, hg, EReal.coe_mul]
  rw [h]
  exact soft_real _ i

/-- The word of a maximum's start is the least extended real. -/
theorem least_word : Ideal.ofBits .f32 0xFF800000#32 = ⊥ := by simp [Ideal.ofBits, Ideal.ieee]

end Cert.Moe
-- ==== Proof.KernelValue.lean ====
/-
# The kernel's output, entry by entry
-/
module

public import proofs.«01_k».proof.Proof.Values
public import proofs.«01_k».proof.Proof.Sums
public import Idealize.ShloMosaic.Lib.Pointwise
public import Idealize.ShloMosaic.Lib.Layout

@[expose] public section

set_option maxRecDepth 16384

noncomputable section

open scoped BigOperators

namespace Cert.Moe

open Cert.KernelIdeal Cert.KernelIdeal.Gen
open Idealize.ShloMosaic

/-! ## The coefficients -/

/-- Two small numbers' words are equal just when the numbers are. -/
theorem word_eq (a b : Fin 16) : IntOp.cmpi .eq (BitVec.ofNat 32 a.val) (BitVec.ofNat 32 b.val) = if a = b then 1#1 else 0#1 := by
  revert a b; decide

/-- The word a device compares with is the number of its own expert among the sixteen. -/
theorem word_own (c : Dev nD) (e : Fin 4) : IntOp.addi (BitVec.ofNat 32 e.val) (Scalar.muli (myWord c) 4#32) = BitVec.ofNat 32 (at16 c e).val := by
  revert c e; decide

/-- What the coefficients' payload is at a token and an expert. -/
theorem pay3_at (w : BitVec 32) (X : FVec Ideal S1024x512 .f32) (R : Vec Ideal S512x16 .f32) (J : Vec Ideal S1024x1 .i32) (n : Fin 1024) (e : Fin 4) :
    k0_pay3 (F := Ideal) w X R J (ix2 n e)
      = Scalar.select (IntOp.cmpi .eq (J (ix2 n 0)) (IntOp.addi (BitVec.ofNat 32 e.val) (Scalar.muli w 4#32)))
          (∑ x : Fin 16, Scalar.select (IntOp.cmpi .eq (J (ix2 n 0)) (BitVec.ofNat 32 x.val))
            (soft (score (fun k => X (ix2 n k)) (fun k e => R (ix2 k e))) x) 0) (0 : EReal) := by
  pointwise [k0_pay3]
  rw [least_word]
  rfl

/-- A device's coefficient of a token at one of its experts: the token's probability at its own expert, zero at any other. -/
theorem cof_at (I : Inp Ideal) (c : Dev nD) (n : Fin 1024) (e : Fin 4) (i : Fin 16) (h : I.ix c (ix2 n 0) = BitVec.ofNat 32 i.val) :
    cof I c (ix2 n e) = if i = at16 c e then soft (score (fun k => I.x c (ix2 n k)) (fun k e => I.rw c (ix2 k e))) i else 0 := by
  have hx : k0_pay2 (F := Ideal) (I.x c) = I.x c := by
    funext j; pointwise [k0_pay2]
  unfold cof
  rw [pay3_at, hx, h, word_own, word_eq]
  have hs : ∀ s : Fin 16 → EReal, (∑ x : Fin 16, Scalar.select (IntOp.cmpi .eq (BitVec.ofNat 32 i.val) (BitVec.ofNat 32 x.val)) (s x) (0 : EReal)) = s i := by
    intro s
    rw [Finset.sum_eq_single i (fun x _ hx => by rw [word_eq, if_neg (Ne.symm hx)]; rfl) (fun h => absurd (Finset.mem_univ _) h), word_eq, if_pos rfl]
    rfl
  rw [hs]
  by_cases hi : i = at16 c e
  · rw [if_pos hi, if_pos hi]; rfl
  · rw [if_neg hi, if_neg hi]; rfl

/-! ## One device's part of a chunk -/

set_option backward.proofsInPublic true in
/-- The token in a chunk's row, -/
def tokenOf (k : Fin 4) (r : Fin 256) : Fin 1024 := ⟨256 * k.val + r.val, by omega⟩
set_option backward.proofsInPublic true in
/-- the column in a half. -/
def colOf (b : Bool) (j : Fin 512) : Fin 1024 := ⟨cond b 512 0 + j.val, by cases b <;> simp <;> omega⟩

theorem rows_at (X : Vec Ideal S1024x512 .f32) (k : Fin 4) (r : Fin 256) (d : Fin 512) : rows X k (ix2 r d) = X (ix2 (tokenOf k r) d) := by
  unfold rows
  refine congrArg X (funext fun a => Fin.ext ?_)
  match a with
  | ⟨0, _⟩ => simp [Rect.unit, Rect.emb, tokenOf, ix2]
  | ⟨1, _⟩ => simp [Rect.unit, Rect.emb, tokenOf, ix2]
theorem cofs_at (X : Vec Ideal S1024x4 .f32) (k : Fin 4) (r : Fin 256) (e : Fin 4) : cofs X k (ix2 r e) = X (ix2 (tokenOf k r) e) := by
  unfold cofs
  refine congrArg X (funext fun a => Fin.ext ?_)
  match a with
  | ⟨0, _⟩ => simp [Rect.unit, Rect.emb, tokenOf, ix2]
  | ⟨1, _⟩ => simp [Rect.unit, Rect.emb, tokenOf, ix2]
theorem expert_at (X : Vec Ideal S4x512x1024 .f32) (e : Fin 4) (d : Fin 512) (o : Fin 1024) : expert X e (ix3 0 d o) = X (ix3 e d o) := by
  unfold expert
  refine congrArg X (funext fun a => Fin.ext ?_)
  match a with
  | ⟨0, _⟩ => simp [Rect.unit, Rect.emb, ix3]
  | ⟨1, _⟩ => simp [Rect.unit, Rect.emb, ix3]
  | ⟨2, _⟩ => simp [Rect.unit, Rect.emb, ix3]

/-- A chunk's product with four experts, each entry of the chunk scaled by its token's coefficient. -/
theorem part'_at (b : Bool) (x : Vec Ideal S256x512 .f32) (q : Vec Ideal S256x4 .f32) (e0 e1 e2 e3 : Vec Ideal S1x512x1024 .f32) (r : Fin 256) (j : Fin 512) :
    part' b x q e0 e1 e2 e3 (ix4 0 0 r j)
      = through (fun d => x (ix2 r d)) (fun d => e0 (ix3 0 d (colOf b j))) (q (ix2 r 0)) + through (fun d => x (ix2 r d)) (fun d => e1 (ix3 0 d (colOf b j))) (q (ix2 r 1))
        + through (fun d => x (ix2 r d)) (fun d => e2 (ix3 0 d (colOf b j))) (q (ix2 r 2)) + through (fun d => x (ix2 r d)) (fun d => e3 (ix3 0 d (colOf b j))) (q (ix2 r 3)) := by
  cases b
  · have hc : ∀ h, (⟨j.val, h⟩ : Fin 1024) = colOf false j := fun h => Fin.ext (by show j.val = 0 + j.val; omega)
    pointwise [part', k0_pay7, k0_pay6, k0_pay5, k0_pay4]
    simp only [hc]
    rfl
  · pointwise [part', k0_pay8, k0_pay6, k0_pay5, k0_pay4]
    rfl

/-- The part of a chunk that device `c` adds, at an entry. -/
theorem part_at (I : Inp Ideal) (b : Bool) (c : Dev nD) (k : Fin 4) (r : Fin 256) (j : Fin 512) :
    part I b c k (ix4 0 0 r j)
      = through (fun d => I.x c (ix2 (tokenOf k r) d)) (fun d => I.ew c (ix3 0 d (colOf b j))) (cof I c (ix2 (tokenOf k r) 0))
        + through (fun d => I.x c (ix2 (tokenOf k r) d)) (fun d => I.ew c (ix3 1 d (colOf b j))) (cof I c (ix2 (tokenOf k r) 1))
        + through (fun d => I.x c (ix2 (tokenOf k r) d)) (fun d => I.ew c (ix3 2 d (colOf b j))) (cof I c (ix2 (tokenOf k r) 2))
        + through (fun d => I.x c (ix2 (tokenOf k r) d)) (fun d => I.ew c (ix3 3 d (colOf b j))) (cof I c (ix2 (tokenOf k r) 3)) := by
  unfold part
  rw [part'_at]
  simp only [rows_at, cofs_at, expert_at]

/-! ## The ring -/

/-- What travels along the ring, at one entry: a device's own value first, then each next device's added, then passed on. -/
def travel (b : Bool) (g : Dev nD → Fin 4 → EReal) : ℕ → Dev nD → EReal
  | 0, c => g c (ck c (sr b 0))
  | s + 1, c => if s < 3 then g c (ck c (sr b (s + 1))) + travel b g s (up (!b) c) else travel b g s (up (!b) c)

theorem pay20_at (v w : V4 Ideal) (r : Fin 256) (j : Fin 512) :
    k0_pay20 (F := Ideal) v (to3 w) (ix4 0 0 r j) = v (ix4 0 0 r j) + w (ix4 0 0 r j) := by
  pointwise [k0_pay20, to3, Shape.reshapeEquiv_symm]

/-- The exchange's values at an entry travel so. -/
theorem sent_at (I : Inp Ideal) (b : Bool) (r : Fin 256) (j : Fin 512) (s : ℕ) (c : Dev nD) :
    sent I b s c (ix4 0 0 r j) = travel b (fun c k => part I b c k (ix4 0 0 r j)) s c := by
  induction s generalizing c with
  | zero => rfl
  | succ s ih =>
    unfold sent travel
    split
    · rw [pay20_at, ih]
    · exact ih _

/-- A device, its neighbour, the next and the next are all four. -/
theorem roundRing (b : Bool) (c : Dev nD) (h : Dev nD → EReal) : h c + (h (up b c) + (h (up b (up b c)) + h (up b (up b (up b c))))) = ∑ d, h d := by
  rw [show (∑ d : Dev nD, h d) = h 0 + h 1 + h 2 + h 3 from Fin.sum_univ_four h]
  fin_cases c <;> cases b
  · show h 0 + (h 1 + (h 2 + h 3)) = _; ac_rfl
  · show h 0 + (h 3 + (h 2 + h 1)) = _; ac_rfl
  · show h 1 + (h 2 + (h 3 + h 0)) = _; ac_rfl
  · show h 1 + (h 0 + (h 3 + h 2)) = _; ac_rfl
  · show h 2 + (h 3 + (h 0 + h 1)) = _; ac_rfl
  · show h 2 + (h 1 + (h 0 + h 3)) = _; ac_rfl
  · show h 3 + (h 0 + (h 1 + h 2)) = _; ac_rfl
  · show h 3 + (h 2 + (h 1 + h 0)) = _; ac_rfl

/-- The chunk a device sends is the one its sender sent a step before. -/
theorem ck_down (b : Bool) (c : Dev nD) {s : ℕ} (hs : s < 6) : ck (up (!b) c) (sr b s) = ck c (sr b (s + 1)) := by
  rw [← ck_up b (up (!b) c) hs, up_up]

/-- After three steps the sum over the devices is complete, -/
theorem travel_three (b : Bool) (g : Dev nD → Fin 4 → EReal) (c : Dev nD) : travel b g 3 c = ∑ d, g d (ck c (sr b 3)) := by
  have h2 : ck (up (!b) c) (sr b 2) = ck c (sr b 3) := ck_down b c (by decide)
  have h1 : ck (up (!b) (up (!b) c)) (sr b 1) = ck c (sr b 3) := (ck_down b _ (by decide)).trans h2
  have h0 : ck (up (!b) (up (!b) (up (!b) c))) (sr b 0) = ck c (sr b 3) := (ck_down b _ (by decide)).trans h1
  have e : travel b g 3 c = g c (ck c (sr b 3)) + (g (up (!b) c) (ck (up (!b) c) (sr b 2)) + (g (up (!b) (up (!b) c)) (ck (up (!b) (up (!b) c)) (sr b 1))
      + g (up (!b) (up (!b) (up (!b) c))) (ck (up (!b) (up (!b) (up (!b) c))) (sr b 0)))) := rfl
  rw [e, h0, h1, h2]
  exact roundRing (!b) c fun d => g d (ck c (sr b 3))

/-- and complete it is passed on. -/
theorem travel_done (b : Bool) (g : Dev nD → Fin 4 → EReal) (t : ℕ) (ht : t ≤ 3) (c : Dev nD) : travel b g (3 + t) c = ∑ d, g d (ck c (sr b (3 + t))) := by
  induction t generalizing c with
  | zero => exact travel_three b g c
  | succ t ih =>
    have e : travel b g (3 + (t + 1)) c = travel b g (3 + t) (up (!b) c) := by
      show (if 3 + t < 3 then _ else _) = _
      rw [if_neg (by omega)]
      rfl
    rw [e, ih (by omega), ck_down b c (by omega : 3 + t < 6)]
    rfl

/-- What a device holds of a chunk when it stores it is the sum of the four devices' parts. -/
theorem sent_done (I : Inp Ideal) (b : Bool) (c : Dev nD) (k : Fin 4) (r : Fin 256) (j : Fin 512) :
    sent I b (doneAt b (off c k)) c (ix4 0 0 r j) = ∑ d, part I b d k (ix4 0 0 r j) := by
  have h : ∀ (b : Bool) (c : Dev nD) (k : Fin 4), ck c (sr b (doneAt b (off c k))) = k := by decide
  rw [sent_at]
  unfold doneAt
  rw [travel_done _ _ _ (by cases b <;> simp <;> omega)]
  have e := h b c k
  unfold doneAt at e
  rw [e]

/-! ## The output -/

theorem half_at (b : Bool) (x : Vec Ideal S256x512 .f32) (s : Vec Ideal S512x1024 .f32) (v : V4 Ideal) (r : Fin 256) (j : Fin 512) :
    half b (k0_pay30 x s) v (ix2 r j) = v (ix4 0 0 r j) + ∑ d : Fin 512, x (ix2 r d) * s (ix2 d (colOf b j)) := by
  cases b
  · have hc : ∀ h, (⟨j.val, h⟩ : Fin 1024) = colOf false j := fun h => Fin.ext (by show j.val = 0 + j.val; omega)
    pointwise [half, k0_pay37, k0_pay36, k0_pay30]
    simp only [hc]
  · pointwise [half, k0_pay38, k0_pay30]
    rfl

/-- The output's entry: the four devices' parts and the shared expert's product. -/
theorem out_entry (I : Inp Ideal) (c : Dev nD) (b : Bool) (k : Fin 4) (r : Fin 256) (j : Fin 512) :
    outP I b c k (ix2 r j) = ∑ d, part I b d k (ix4 0 0 r j) + ∑ d : Fin 512, I.x c (ix2 (tokenOf k r) d) * I.sw c (ix2 d (colOf b j)) := by
  unfold outP shared
  rw [half_at, sent_done]
  simp only [rows_at]

/-- Every entry is in some half chunk. -/
theorem out_ix (I : Inp Ideal) (c : Dev nD) (n o : Fin 1024) : ∃ (b : Bool) (k : Fin 4) (r : Fin 256) (j : Fin 512), tokenOf k r = n ∧ colOf b j = o
    ∧ out I c (ix2 n o) = outP I b c k (ix2 r j) := by
  refine ⟨decide (512 ≤ o.val), ⟨n.val / 256, by omega⟩, ⟨n.val % 256, by omega⟩, ⟨o.val % 512, by omega⟩, Fin.ext ?_, Fin.ext ?_, ?_⟩
  · show 256 * (n.val / 256) + n.val % 256 = n.val; omega
  · show cond (decide (512 ≤ o.val)) 512 0 + o.val % 512 = o.val
    by_cases h : 512 ≤ o.val
    · simp [h]; omega
    · simp [h]; omega
  · unfold out
    refine congrArg (outP I _ c _) (funext fun a => ?_)
    match a with
    | ⟨0, _⟩ => rfl
    | ⟨1, _⟩ => rfl

/-- The kernel's output at an entry is the token's, when the devices hold one problem's arrays, each its four experts, the rows and the
    router real, the index one of the sixteen. -/
theorem out_token (I : Inp Ideal) (X : FVec Ideal S1024x512 .f32) (R : FVec Ideal S512x16 .f32) (J : IVec S1024x1 32)
    (W : (⟨3, ![16, 512, 1024]⟩ : Shape).Idx → EReal) (S : FVec Ideal S512x1024 .f32)
    (hX : ∀ c, I.x c = X) (hR : ∀ c, I.rw c = R) (hJ : ∀ c, I.ix c = J)
    (hW : ∀ c, I.ew c = Layout.block ⟨3, ![4, 512, 1024]⟩ ⟨3, ![16, 512, 1024]⟩ 0 4 c W) (hS : ∀ c, I.sw c = S)
    (fX : ∀ i, ∃ r : ℝ, X i = r) (fR : ∀ i, ∃ r : ℝ, R i = r) (c : Dev nD) (n o : Fin 1024) (i : Fin 16) (hi : J (ix2 n 0) = BitVec.ofNat 32 i.val) :
    out I c (ix2 n o) = token (fun k => X (ix2 n k)) (fun k e => R (ix2 k e)) i (fun e k => W (ix3 e k o)) (fun k => S (ix2 k o)) := by
  obtain ⟨b, k, r, j, rfl, rfl, ho⟩ := out_ix I c n o
  obtain ⟨p, hp, hs⟩ := soft_score_real (fun k' => X (ix2 (tokenOf k r) k')) (fun k e => R (ix2 k e)) (fun _ => fX _) (fun _ _ => fR _) i
  have hw : ∀ (d : Dev nD) (e : Fin 4) (k' : Fin 512) (o : Fin 1024), I.ew d (ix3 e k' o) = W (ix3 (at16 d e) k' o) := fun d e k' o => by
    rw [hW, Layout.block_apply]
    refine congrArg W (funext fun a => Fin.ext ?_)
    match a with
    | ⟨0, _⟩ => show d.val * 4 + e.val = 4 * d.val + e.val; omega
    | ⟨1, _⟩ => rfl
    | ⟨2, _⟩ => rfl
  have hq : ∀ (d : Dev nD) (e : Fin 4), cof I d (ix2 (tokenOf k r) e) = if i = at16 d e then (p : EReal) else 0 := fun d e => by
    rw [cof_at I d (tokenOf k r) e i (by rw [hJ]; exact hi), hX, hR, hs]
  rw [ho, out_entry]
  simp only [part_at, hq, hw, hX, hS]
  unfold token
  rw [hs, add_comm]
  exact congrArg _ (pick i p hp (fun k' => X (ix2 (tokenOf k r) k')) (fun e k' => W (ix3 e k' (colOf b j))))

end Cert.Moe
-- ==== Proof.ReferenceValue.lean ====
/-
# The reference's result, entry by entry
-/
module

public import proofs.«01_k».proof.Proof.Gen.ReferenceIdeal.Run
public import proofs.«01_k».proof.Proof.Sums
public import Idealize.ShloMosaic.Lib.Pointwise
public import Idealize.ShloMosaic.Lib.StableHlo.Predicate

@[expose] public section

set_option maxRecDepth 16384

noncomputable section

open scoped BigOperators

namespace Cert.Moe.Ref

open Cert.ReferenceIdeal Cert.ReferenceIdeal.Gen
open Idealize.ShloMosaic

/-- The gather of one probability a token, -/
abbrev G1 := gather_S1024x16_S1024x2_S1024_n_01_n_n_01_1_11
/-- and of one expert's weights a token. -/
abbrev G2 := gather_S16x512x1024_S1024x1_S1024x512x1024_12_0_n_n_0_1_15121024

/-- Where each reads its start from. -/
theorem si1 (n : Fin 1024) (k : Fin 2) : G1.siIdx (ix1 n) k = ix2 n k := by
  funext a
  match a with
  | ⟨0, _⟩ => rfl
  | ⟨1, _⟩ => rfl
theorem si2 (n : Fin 1024) (d : Fin 512) (o : Fin 1024) (k : Fin 1) : G2.siIdx (ix3 n d o) k = ix2 n k := by
  funext a
  match a with
  | ⟨0, _⟩ => rfl
  | ⟨1, _⟩ => rfl

/-- Starts inside the array are read as they stand. -/
theorem gather1_at {α : Type} (x : S1024x16.Idx → α) (idx : IVec S1024x2 32) (n a : Fin 1024) (b : Fin 16)
    (ha : idx (ix2 n 0) = BitVec.ofNat 32 a.val) (hb : idx (ix2 n 1) = BitVec.ofNat 32 b.val) :
    Host.gather G1 x idx (ix1 n) = x (ix2 a b) := by
  unfold Host.gather
  refine congrArg x (funext fun c => Fin.ext ?_)
  match c with
  | ⟨0, _⟩ =>
    show min (idx (G1.siIdx (ix1 n) (0 : Fin 2))).toInt.toNat (1024 - 1) + 0 + 0 = a.val
    rw [si1, ha, StableHlo.Predicate.toInt_ofNat_small _ (by omega)]; omega
  | ⟨1, _⟩ =>
    show min (idx (G1.siIdx (ix1 n) (1 : Fin 2))).toInt.toNat (16 - 1) + 0 + 0 = b.val
    rw [si1, hb, StableHlo.Predicate.toInt_ofNat_small _ (by omega)]; omega

theorem gather2_at {α : Type} (x : S16x512x1024.Idx → α) (idx : IVec S1024x1 32) (n : Fin 1024) (d : Fin 512) (o : Fin 1024) (b : Fin 16)
    (hb : idx (ix2 n 0) = BitVec.ofNat 32 b.val) :
    Host.gather G2 x idx (ix3 n d o) = x (ix3 b d o) := by
  unfold Host.gather
  refine congrArg x (funext fun c => Fin.ext ?_)
  match c with
  | ⟨0, _⟩ =>
    show min (idx (G2.siIdx (ix3 n d o) (0 : Fin 1))).toInt.toNat (16 - 1) + 0 + 0 = b.val
    rw [si2, hb, StableHlo.Predicate.toInt_ofNat_small _ (by omega)]; omega
  | ⟨1, _⟩ => show 0 + 0 + d.val = d.val; omega
  | ⟨2, _⟩ => show 0 + 0 + o.val = o.val; omega

/-- The reference's probabilities. -/
def probs (X : FVec Ideal S1024x512 .f32) (R : FVec Ideal S512x16 .f32) : FVec Ideal S1024x16 .f32 :=
  Host.divf (Host.exp (subf (Host.dotGeneral dot_S1024x512_S512x16_S1024x16_1_0_0_1_n_n none X R) (broadcastInDim S1024x16 ![0, 1] bcast_S1024x1_S1024x16_0_1 (broadcastInDim S1024x1 ![0] bcast_S1024_S1024x1_0 (Host.reduce FloatOps.maximumf (Host.dotGeneral dot_S1024x512_S512x16_S1024x16_1_0_0_1_n_n none X R) (constant S_ .f32 0xFF800000#32) reducesTo_S1024x16_S1024_d1 h_S_))))) (broadcastInDim S1024x16 ![0, 1] bcast_S1024x1_S1024x16_0_1 (broadcastInDim S1024x1 ![0] bcast_S1024_S1024x1_0 (Host.reduceAdd (Host.exp (subf (Host.dotGeneral dot_S1024x512_S512x16_S1024x16_1_0_0_1_n_n none X R) (broadcastInDim S1024x16 ![0, 1] bcast_S1024x1_S1024x16_0_1 (broadcastInDim S1024x1 ![0] bcast_S1024_S1024x1_0 (Host.reduce FloatOps.maximumf (Host.dotGeneral dot_S1024x512_S512x16_S1024x16_1_0_0_1_n_n none X R) (constant S_ .f32 0xFF800000#32) reducesTo_S1024x16_S1024_d1 h_S_))))) (constant S_ .f32 0x00000000#32) reducesTo_S1024x16_S1024_d1 h_S_)))

/-- They are the softmax of the token's scores. -/
theorem probs_at (X : FVec Ideal S1024x512 .f32) (R : FVec Ideal S512x16 .f32) (n : Fin 1024) (e : Fin 16) :
    probs X R (ix2 n e) = soft (score (fun k => X (ix2 n k)) (fun k e => R (ix2 k e))) e := by
  pointwise [probs]
  rw [least_word]
  rfl

/-- The places the reference takes the experts' weights from. -/
def wrap (J : IVec S1024x1 32) : IVec S1024x1 32 := (broadcastInDim S1024x1 ![0] bcast_S1024_S1024x1_0 (select (cmpi .slt (shapeCast S1024 J shapeCasts_S1024x1_S1024) (broadcastInDim S1024 ![] bcast_S_S1024 (constantI S_ 32 0#32))) (addi (shapeCast S1024 J shapeCasts_S1024x1_S1024) (broadcastInDim S1024 ![] bcast_S_S1024 (constantI S_ 32 16#32))) (shapeCast S1024 J shapeCasts_S1024x1_S1024)))

/-- A token's own place. -/
def own : IVec S1024x1 32 := (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))

/-- The two together. -/
def both (J : IVec S1024x1 32) : IVec S1024x2 32 := concatenate S1024x2 1 [⟨S1024x1, own⟩, ⟨S1024x1, wrap J⟩] concatenates_S1024x1_S1024x1_S1024x2_d1

/-- An index from 0 to 15 stays as it is. -/
theorem wrap_at (J : IVec S1024x1 32) (n : Fin 1024) (i : Fin 16) (h : J (ix2 n 0) = BitVec.ofNat 32 i.val) : wrap J (ix2 n 0) = BitVec.ofNat 32 i.val := by
  pointwise [wrap]
  rw [h]
  clear h
  revert i
  decide
theorem own_at (n : Fin 1024) : own (ix2 n 0) = BitVec.ofNat 32 n.val := by
  pointwise [own]
  have h : (BitVec.ofNat 32 n.val).slt 0#32 = false := by
    rw [BitVec.slt, StableHlo.Predicate.toInt_ofNat_small _ (by omega)]
    simp
  show (if BitVec.ofBool ((BitVec.ofNat 32 n.val).slt 0#32) = 1 then _ else _) = _
  rw [h]
  rfl
theorem both_0 (J : IVec S1024x1 32) (n : Fin 1024) : both J (ix2 n 0) = own (ix2 n 0) := by
  pointwise [both]
theorem both_1 (J : IVec S1024x1 32) (n : Fin 1024) : both J (ix2 n 1) = wrap J (ix2 n 0) := by
  pointwise [both]

/-- The reference's result, of its arguments. -/
def result (X : FVec Ideal S1024x512 .f32) (R : FVec Ideal S512x16 .f32) (J : IVec S1024x1 32) (W : FVec Ideal S16x512x1024 .f32) (S : FVec Ideal S512x1024 .f32) :
    FVec Ideal S1024x1024 .f32 :=
  addf (Host.dotGeneral dot_S1024x512_S512x1024_S1024x1024_1_0_0_1_n_n none X S)
    (mulf (broadcastInDim S1024x1024 ![0, 1] bcast_S1024x1_S1024x1024_0_1 (broadcastInDim S1024x1 ![0] bcast_S1024_S1024x1_0 (Host.gather G1 (probs X R) (both J))))
      (Host.dotGeneral dot_S1024x512_S1024x512x1024_S1024x1024_1_1_n_2_0_0 none X (Host.gather G2 W (wrap J))))

/-- Each entry of it is the token's. -/
theorem result_at (X : FVec Ideal S1024x512 .f32) (R : FVec Ideal S512x16 .f32) (J : IVec S1024x1 32) (W : FVec Ideal S16x512x1024 .f32) (S : FVec Ideal S512x1024 .f32)
    (n o : Fin 1024) (i : Fin 16) (h : J (ix2 n 0) = BitVec.ofNat 32 i.val) :
    result X R J W S (ix2 n o) = token (fun k => X (ix2 n k)) (fun k e => R (ix2 k e)) i (fun e k => W (ix3 e k o)) (fun k => S (ix2 k o)) := by
  have hb0 : both J (ix2 n 0) = BitVec.ofNat 32 n.val := (both_0 J n).trans (own_at n)
  have hb1 : both J (ix2 n 1) = BitVec.ofNat 32 i.val := (both_1 J n).trans (wrap_at J n i h)
  pointwise [result]
  rw [gather1_at (probs X R) (both J) n n i hb0 hb1, probs_at]
  simp only [gather2_at W (wrap J) n _ o i (wrap_at J n i h)]
  rfl

end Cert.Moe.Ref
-- ==== Proof.Admitted.lean ====
/-
# The inputs the equation is stated of

What the printed precondition says of a device's arrays: the rows and the router's matrix hold real numbers, and each token's
index is one of the sixteen experts'.
-/
module

public import proofs.«01_k».proof.Defs
public import proofs.«01_k».proof.Proof.Sums
public import Idealize.ShloMosaic.Lib.Pointwise
public import Idealize.ShloMosaic.Lib.ReduceAll
public import Idealize.ShloMosaic.Lib.Decide

@[expose] public section

set_option maxRecDepth 16384

noncomputable section

namespace Cert.Moe

open Idealize.ShloMosaic

/-- The predicate's side conditions, read of the kernel's arrays, -/
theorem admitted_facts : Cert.Pre_finite_and_routed_KernelIdeal.Facts where
  bcast_S_S1024x512 := by decide
  reducesTo_S1024x512_S_d0_1 := by decide
  h_S_ := by decide
  bcast_S_S512x16 := by decide
  reducesTo_S512x16_S_d0_1 := by decide
  bcast_S_S1024x1 := by decide
  reducesTo_S1024x1_S_d0_1 := by decide

/-- and of the reference's. -/
theorem admitted_facts' : Cert.Pre_finite_and_routed_ReferenceIdeal.Facts where
  bcast_S_S1024x512 := by decide
  reducesTo_S1024x512_S_d0_1 := by decide
  h_S_ := by decide
  bcast_S_S512x16 := by decide
  reducesTo_S512x16_S_d0_1 := by decide
  bcast_S_S1024x1 := by decide
  reducesTo_S1024x1_S_d0_1 := by decide

open Cert.Pre_finite_and_routed_KernelIdeal

/-- The scalar shape has one index. -/
instance : Subsingleton S_.Idx := ⟨fun a b => funext fun d => d.elim0⟩

/-- A value whose magnitude is below the largest extended real is a real number. -/
theorem real_of_abs (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    by_contra hn
    unfold Ideal.cmp at h
    simp only [hn, decide_false, BitVec.ofBool_false] at h
    exact absurd h (by decide)
  rw [max_lt_iff] at hlt
  refine real_of hlt.1.ne fun hb => ?_
  rw [hb] at hlt
  simp at hlt

/-- A word that is signed at least 0 and below 16 is one of the sixteen. -/
theorem one_of_sixteen (w : BitVec 32) (h0 : IntOp.cmpi .sge w 0#32 = 1#1) (h1 : IntOp.cmpi .slt w 16#32 = 1#1) : ∃ i : Fin 16, w = BitVec.ofNat 32 i.val := by
  have e0 : BitVec.ofBool ((0#32).sle w) = 1#1 := h0
  have e1 : BitVec.ofBool (w.slt 16#32) = 1#1 := h1
  have a0 : (0#32).sle w = true := by
    cases h : (0#32).sle w
    · rw [h] at e0; exact absurd e0 (by decide)
    · rfl
  have a1 : w.slt 16#32 = true := by
    cases h : w.slt 16#32
    · rw [h] at e1; exact absurd e1 (by decide)
    · rfl
  rw [BitVec.sle, decide_eq_true_eq] at a0
  rw [BitVec.slt, decide_eq_true_eq] at a1
  have z : (0#32 : BitVec 32).toInt = 0 := by decide
  have s : (16#32 : BitVec 32).toInt = 16 := by decide
  rw [z] at a0
  rw [s] at a1
  have hw : w.toNat < 16 := by
    rw [BitVec.toInt_eq_toNat_cond] at a0 a1
    split at a0 <;> omega
  exact ⟨⟨w.toNat, hw⟩, by simp⟩

/-- The precondition, read. -/
theorem admitted [Facts] (X : FVec Ideal S1024x512 .f32) (R : FVec Ideal S512x16 .f32) (J : IVec S1024x1 32) (W : FVec Ideal S4x512x1024 .f32) (S : FVec Ideal S512x1024 .f32)
    (h : fn (F := Ideal) X R J W S = fun _ => 1#1) :
    (∀ i, ∃ r : ℝ, X i = r) ∧ (∀ i, ∃ r : ℝ, R i = r) ∧ ∀ i, ∃ k : Fin 16, J i = BitVec.ofNat 32 k.val := by
  have h' := congrFun h (ix0 : S_.Idx)
  obtain ⟨h1, hJ⟩ := IntOp.andi_eq_one.1 h'
  obtain ⟨hX, hR⟩ := IntOp.andi_eq_one.1 h1
  refine ⟨fun i => real_of_abs _ ?_, fun i => real_of_abs _ ?_, fun i => ?_⟩
  · exact Host.reduce_andi_all _ _ _ _ _ hX i
  · exact Host.reduce_andi_all _ _ _ _ _ hR i
  · obtain ⟨a, b⟩ := IntOp.andi_eq_one.1 (Host.reduce_andi_all _ _ _ _ _ hJ i)
    exact one_of_sixteen _ a b

end Cert.Moe
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.KernelValue
public import proofs.«01_k».proof.Proof.ReferenceValue
public import proofs.«01_k».proof.Proof.Admitted
public import Idealize.ShloMosaic.Adequacy
public import Idealize.ShloMosaic.Init

@[expose] public section

noncomputable section

namespace Cert.Proof

open Idealize.ShloMosaic Idealize.SL.Sem

/-- The two programs' body tables are one table, as their texts are one text: -/
theorem bodies_eq : Cert.Kernel.defs₀ (F := Bits) = Cert.KernelIdeal.defs₀ (F := Bits) := by
  unfold Cert.Kernel.defs₀ Cert.KernelIdeal.defs₀
  refine congrArg Defs.onTc ?_
  funext x y
  revert y
  match x with
  | 0 => exact fun ⟨t, s⟩ => rfl

/-- and so are the tables with the pipelines. -/
theorem tables_eq : Cert.Kernel.defs (F := Bits) = Cert.KernelIdeal.defs (F := Bits) :=
  congrArg (Pipeline.defs (Cert.Kernel.pcfgs (F := Bits))) bodies_eq

/-- The kernel as the machine runs it: every run ends, the arguments as they were, every counter at zero. -/
theorem frame_kernel : Cert.quiescent_Kernel (hKernel := Cert.Kernel.Gen.facts) := by
  intro m g _
  have h : θ_run (Cert.KernelIdeal.defs (F := Bits)) (onTc (τ := Cert.KernelIdeal.τ) (Cert.KernelIdeal.main (F := Bits))) ⟨m, fun _ => 0, g⟩ (fun r =>
      (∀ c : Dev Cert.KernelIdeal.nD, _) ∧ r.2.sem = fun _ => 0) :=
    (θ_run Cert.KernelIdeal.defs _ _).mono (fun _ h => ⟨fun c => (h.1 c).2, h.2⟩) (Cert.Moe.run_out (F := Bits) m g)
  rw [tables_eq]
  exact h

/-- The same of its idealization. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.Moe.run_out (F := Ideal) m g)

/-- The reference runs, its arguments unchanged; it has no counters. -/
theorem frame_ref : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

open Cert.Moe in
/-- The kernel's output on every device is the reference's result, of one problem's arrays that the precondition admits. -/
theorem same (I : Inp Ideal) (X : FVec Ideal Cert.KernelIdeal.S1024x512 .f32) (R : FVec Ideal Cert.KernelIdeal.S512x16 .f32) (J : IVec Cert.KernelIdeal.S1024x1 32)
    (W : FVec Ideal Cert.ReferenceIdeal.S16x512x1024 .f32) (S : FVec Ideal Cert.KernelIdeal.S512x1024 .f32)
    (hX : ∀ c, I.x c = X) (hR : ∀ c, I.rw c = R) (hJ : ∀ c, I.ix c = J)
    (hW : ∀ c, I.ew c = Layout.block ⟨3, ![4, 512, 1024]⟩ ⟨3, ![16, 512, 1024]⟩ 0 4 c W) (hS : ∀ c, I.sw c = S)
    (fX : ∀ i, ∃ r : ℝ, X i = r) (fR : ∀ i, ∃ r : ℝ, R i = r) (fJ : ∀ i, ∃ k : Fin 16, J i = BitVec.ofNat 32 k.val) (c : Dev Cert.KernelIdeal.nD) :
    out I c = Ref.result X R J W S := by
  funext j
  obtain ⟨n, o, rfl⟩ : ∃ n o : Fin 1024, j = ix2 n o := ⟨j 0, j 1, eq_ix2 j⟩
  obtain ⟨i, hi⟩ := fJ (ix2 n 0)
  exact (out_token I X R J W S hX hR hJ hW hS fX fR c n o i hi).trans (Ref.result_at X R J W S n o i hi).symm

/-- Over the extended reals, from arguments the precondition admits, the kernel's devices and the reference end with the same result. -/
theorem equation : Cert.algebraic_KernelIdeal_ReferenceIdeal_pre_finite_and_routed_KernelIdeal (hKernelIdeal := Cert.KernelIdeal.Gen.facts)
    (hReferenceIdeal := Cert.ReferenceIdeal.Gen.facts) (hPre_finite_and_routed_KernelIdeal := Cert.Moe.admitted_facts) := by
  intro m g m' g' hpre hin
  obtain ⟨fX, fR, fJ⟩ := @Cert.Moe.admitted Cert.Moe.admitted_facts _ _ _ _ _ (hpre 0)
  have hout := fun c => same (Cert.Moe.inp m) _ _ _ _ _ (fun c => (Cert.Moe.inp_x m c).trans (hin c).1) (fun c => (Cert.Moe.inp_rw m c).trans (hin c).2.1)
    (fun c => (Cert.Moe.inp_ix m c).trans (hin c).2.2.1) (fun c => (Cert.Moe.inp_ew m c).trans (hin c).2.2.2.1) (fun c => (Cert.Moe.inp_sw m c).trans (hin c).2.2.2.2)
    (fun i => by obtain ⟨r, h⟩ := fX i; exact ⟨r, (congrFun (hin 0).1 i).symm.trans h⟩)
    (fun i => by obtain ⟨r, h⟩ := fR i; exact ⟨r, (congrFun (hin 0).2.1 i).symm.trans h⟩)
    (fun i => by obtain ⟨r, h⟩ := fJ i; exact ⟨r, (congrFun (hin 0).2.2.1 i).symm.trans h⟩) c
  exact ⟨_, (θ_run Cert.KernelIdeal.defs _ _).mono (fun _ h c => ⟨((h.1 c).1).trans (hout c), (h.1 c).2⟩) (Cert.Moe.run_out (F := Ideal) m g),
    (θ_run Cert.ReferenceIdeal.defs _ _).mono (fun _ h => h 0) (Cert.ReferenceIdeal.Value.run (F := Ideal) m' g')⟩

/-- All that the certificate claims. -/
theorem claim : Cert.Claim := ⟨Cert.Kernel.Gen.facts, Cert.KernelIdeal.Gen.facts, Cert.ReferenceIdeal.Gen.facts, Cert.Moe.admitted_facts, Cert.Moe.admitted_facts',
  frame_kernel, frame_ideal, fun m g _ => frame_ideal m g trivial, frame_ref, fun m g _ => frame_ref m g trivial, trivial, equation⟩

end Cert.Proof

end
